-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_graph_and_finite [hPre_complete_graph_and_finite : Cert.Pre_complete_graph_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_complete_graph_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_graph_and_finite [hPre_complete_graph_and_finite : Cert.Pre_complete_graph_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_graph_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_complete_graph_and_finite [hKernelIdeal : Cert.KernelIdeal.Facts] [hPre_complete_graph_and_finite : Cert.Pre_complete_graph_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_graph_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_complete_graph_and_finite [hReferenceIdeal : Cert.ReferenceIdeal.Facts] [hPre_complete_graph_and_finite : Cert.Pre_complete_graph_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_graph_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_complete_graph_and_finite [hKernelIdeal : Cert.KernelIdeal.Facts] [hReferenceIdeal : Cert.ReferenceIdeal.Facts] [hPre_complete_graph_and_finite : Cert.Pre_complete_graph_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_graph_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_complete_graph_and_finite : Cert.Pre_complete_graph_and_finite.Facts),
    quiescent_Kernel (hKernel := hKernel)
    ∧ quiescent_KernelIdeal (hKernelIdeal := hKernelIdeal)
    ∧ quiescent_KernelIdeal_pre_complete_graph_and_finite (hKernelIdeal := hKernelIdeal) (hPre_complete_graph_and_finite := hPre_complete_graph_and_finite)
    ∧ quiescent_ReferenceIdeal (hReferenceIdeal := hReferenceIdeal)
    ∧ quiescent_ReferenceIdeal_pre_complete_graph_and_finite (hReferenceIdeal := hReferenceIdeal) (hPre_complete_graph_and_finite := hPre_complete_graph_and_finite)
    ∧ preserves_Kernel_KernelIdeal
    ∧ algebraic_KernelIdeal_ReferenceIdeal_pre_complete_graph_and_finite (hKernelIdeal := hKernelIdeal) (hReferenceIdeal := hReferenceIdeal) (hPre_complete_graph_and_finite := hPre_complete_graph_and_finite)
-- ==== Pre_complete_graph_and_finite.lean ====
abbrev S32x128x100 : Shape := ⟨3, ![32, 128, 100]⟩
abbrev S2x9900 : Shape := ⟨2, ![2, 9900]⟩
abbrev S128x128 : Shape := ⟨2, ![128, 128]⟩
abbrev S128 : Shape := ⟨1, ![128]⟩
abbrev S1x9900 : Shape := ⟨2, ![1, 9900]⟩
abbrev S9900 : Shape := ⟨1, ![9900]⟩
abbrev S_ : Shape := ⟨0, ![]⟩

class Facts : Prop where
  slices_S2x9900_S1x9900_0_0 : S2x9900.Slices ![0, 0] S1x9900
  shapeCasts_S1x9900_S9900 : S1x9900.ShapeCasts S9900
  slices_S2x9900_S1x9900_1_0 : S2x9900.Slices ![1, 0] S1x9900
  bcast_S_S9900 : S_.BroadcastsInDim S9900 (![] : Fin 0 → Fin S9900.rank)
  reducesTo_S9900_S_d0 : S9900.ReducesTo [0] S_
  h_S_ : 0 < S_.numel
  bcast_S_S32x128x100 : S_.BroadcastsInDim S32x128x100 (![] : Fin 0 → Fin S32x128x100.rank)
  reducesTo_S32x128x100_S_d0_1_2 : S32x128x100.ReducesTo [0, 1, 2] S_
  bcast_S_S128x128 : S_.BroadcastsInDim S128x128 (![] : Fin 0 → Fin S128x128.rank)
  reducesTo_S128x128_S_d0_1 : S128x128.ReducesTo [0, 1] S_

variable [Facts]

def fn_where {F : FTy → Type} [FloatOps F] (arg0 : IVec S9900 1) (arg1 : IVec S9900 32) (arg2 : IVec S9900 32) : IVec S9900 32 :=
  let v0 : IVec S9900 32 := select arg0 arg1 arg2
  v0

def fn_part2 {F : FTy → Type} [FloatOps F] (main_v32 : IVec S_ 1) (main_v36 : IVec S_ 1) : IVec S_ 1 :=
  let main_v37 : IVec S_ 1 := andi main_v32 main_v36
  main_v37

def fn_part1 {F : FTy → Type} [FloatOps F] (main_arg0 : FVec F S32x128x100 .f32) (main_arg2 : FVec F S128x128 .f32) (main_v1 : IVec S9900 32) (main_v3 : IVec S9900 32) (main_v16 : IVec S9900 1) (main_v18 : IVec S9900 32) : IVec S_ 1 :=
  let main_v19 : IVec S9900 1 := cmpi .sgt main_v1 main_v3
  let main_c_4 : IVec S_ 32 := constantI S_ 32 1#32
  let main_v20 : IVec S9900 32 := broadcastInDim S9900 ![] bcast_S_S9900 main_c_4
  let main_v21 : IVec S9900 32 := subi main_v1 main_v20
  let main_v22 : IVec S9900 32 := fn_where (F := F) main_v19 main_v21 main_v1
  let main_v23 : IVec S9900 32 := addi main_v18 main_v22
  let main_v24 : IVec S9900 32 := iotaInDim S9900 32 0
  let main_v25 : IVec S9900 1 := cmpi .eq main_v23 main_v24
  let main_v26 : IVec S9900 1 := andi main_v16 main_v25
  let main_c_5 : IVec S_ 1 := constantI S_ 1 1#1
  let main_v27 : IVec S_ 1 := (fun x v => Host.reduce IntOp.andi x v reducesTo_S9900_S_d0 h_S_) main_v26 main_c_5
  let main_v28 : FVec F S32x128x100 .f32 := Host.absf main_arg0
  let main_cst : FVec F S_ .f32 := constant S_ .f32 0x7F800000#32
  let main_v29 : FVec F S32x128x100 .f32 := broadcastInDim S32x128x100 ![] bcast_S_S32x128x100 main_cst
  let main_v30 : IVec S32x128x100 1 := cmpf .olt main_v28 main_v29
  let main_c_6 : IVec S_ 1 := constantI S_ 1 1#1
  let main_v31 : IVec S_ 1 := (fun x v => Host.reduce IntOp.andi x v reducesTo_S32x128x100_S_d0_1_2 h_S_) main_v30 main_c_6
  let main_v32 : IVec S_ 1 := andi main_v27 main_v31
  let main_v33 : FVec F S128x128 .f32 := Host.absf main_arg2
  let main_cst_7 : FVec F S_ .f32 := constant S_ .f32 0x7F800000#32
  let main_v34 : FVec F S128x128 .f32 := broadcastInDim S128x128 ![] bcast_S_S128x128 main_cst_7
  let main_v35 : IVec S128x128 1 := cmpf .olt main_v33 main_v34
  let main_c_8 : IVec S_ 1 := constantI S_ 1 1#1
  let main_v36 : IVec S_ 1 := (fun x v => Host.reduce IntOp.andi x v reducesTo_S128x128_S_d0_1 h_S_) main_v35 main_c_8
  fn_part2 (F := F) main_v32 main_v36

def fn {F : FTy → Type} [FloatOps F] (main_arg0 : FVec F S32x128x100 .f32) (main_arg1 : IVec S2x9900 32) (main_arg2 : FVec F S128x128 .f32) (main_arg3 : FVec F S128 .f32) : IVec S_ 1 :=
  let main_v0 : IVec S1x9900 32 := (extractStridedSlice S1x9900 ![0, 0] · slices_S2x9900_S1x9900_0_0) main_arg1
  let main_v1 : IVec S9900 32 := shapeCast S9900 main_v0 shapeCasts_S1x9900_S9900
  let main_v2 : IVec S1x9900 32 := (extractStridedSlice S1x9900 ![1, 0] · slices_S2x9900_S1x9900_1_0) main_arg1
  let main_v3 : IVec S9900 32 := shapeCast S9900 main_v2 shapeCasts_S1x9900_S9900
  let main_c : IVec S_ 32 := constantI S_ 32 0#32
  let main_v4 : IVec S9900 32 := broadcastInDim S9900 ![] bcast_S_S9900 main_c
  let main_v5 : IVec S9900 1 := cmpi .sge main_v1 main_v4
  let main_c_0 : IVec S_ 32 := constantI S_ 32 100#32
  let main_v6 : IVec S9900 32 := broadcastInDim S9900 ![] bcast_S_S9900 main_c_0
  let main_v7 : IVec S9900 1 := cmpi .slt main_v1 main_v6
  let main_v8 : IVec S9900 1 := andi main_v5 main_v7
  let main_c_1 : IVec S_ 32 := constantI S_ 32 0#32
  let main_v9 : IVec S9900 32 := broadcastInDim S9900 ![] bcast_S_S9900 main_c_1
  let main_v10 : IVec S9900 1 := cmpi .sge main_v3 main_v9
  let main_v11 : IVec S9900 1 := andi main_v8 main_v10
  let main_c_2 : IVec S_ 32 := constantI S_ 32 100#32
  let main_v12 : IVec S9900 32 := broadcastInDim S9900 ![] bcast_S_S9900 main_c_2
  let main_v13 : IVec S9900 1 := cmpi .slt main_v3 main_v12
  let main_v14 : IVec S9900 1 := andi main_v11 main_v13
  let main_v15 : IVec S9900 1 := cmpi .ne main_v1 main_v3
  let main_v16 : IVec S9900 1 := andi main_v14 main_v15
  let main_c_3 : IVec S_ 32 := constantI S_ 32 99#32
  let main_v17 : IVec S9900 32 := broadcastInDim S9900 ![] bcast_S_S9900 main_c_3
  let main_v18 : IVec S9900 32 := muli main_v3 main_v17
  fn_part1 (F := F) main_arg0 main_arg2 main_v1 main_v3 main_v16 main_v18
-- ==== Kernel.lean ====
abbrev S32x128x100 : Shape := ⟨3, ![32, 128, 100]⟩
abbrev S2x9900 : Shape := ⟨2, ![2, 9900]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S32x128x28 : Shape := ⟨3, ![32, 128, 28]⟩
abbrev S32x128x128 : Shape := ⟨3, ![32, 128, 128]⟩
abbrev S4096x128 : Shape := ⟨2, ![4096, 128]⟩
abbrev S32x128 : Shape := ⟨2, ![32, 128]⟩
abbrev S32x1x128 : Shape := ⟨3, ![32, 1, 128]⟩
abbrev S128x1 : Shape := ⟨2, ![128, 1]⟩
abbrev S128x1x128 : Shape := ⟨3, ![128, 1, 128]⟩
abbrev S128x128x1 : Shape := ⟨3, ![128, 128, 1]⟩
abbrev S128x128x128 : Shape := ⟨3, ![128, 128, 128]⟩
abbrev S1x128x128 : Shape := ⟨3, ![1, 128, 128]⟩
abbrev S1 : Shape := ⟨1, ![1]⟩
abbrev S1x1x1 : Shape := ⟨3, ![1, 1, 1]⟩
abbrev S128x100 : Shape := ⟨2, ![128, 100]⟩
abbrev S1x128x100 : Shape := ⟨3, ![1, 128, 100]⟩

abbrev nBuf : Space → Nat
  | .hbm => 6
  | .vmem => 5
  | .smem => 0
  | _ => 0

abbrev bufTy : (tb : Table) → Fin (tcTables nBuf tb) → BufTy
  | .hbm, ⟨0, _⟩ => ⟨S32x128x100, .f32⟩
  | .hbm, ⟨1, _⟩ => ⟨S2x9900, .i32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S32x128x100, .f32⟩
  | .local _ .vmem, ⟨0, _⟩ => ⟨S32x128x100, .f32⟩
  | .local _ .vmem, ⟨1, _⟩ => ⟨S128x128, .f32⟩
  | .local _ .vmem, ⟨2, _⟩ => ⟨S1x128, .f32⟩
  | .local _ .vmem, ⟨3, _⟩ => ⟨S32x128x100, .f32⟩
  | .local _ .vmem, ⟨4, _⟩ => ⟨S8x128, .f32⟩
  | _, _ => ⟨S32x128x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x128x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x128x100 : Shape := ⟨3, ![32, 128, 100]⟩
abbrev S2x9900 : Shape := ⟨2, ![2, 9900]⟩
abbrev S128x128 : Shape := ⟨2, ![128, 128]⟩
abbrev S128 : Shape := ⟨1, ![128]⟩
abbrev S100x32x128 : Shape := ⟨3, ![100, 32, 128]⟩
abbrev S_ : Shape := ⟨0, ![]⟩
abbrev S100x32 : Shape := ⟨2, ![100, 32]⟩
abbrev S100x32x1 : Shape := ⟨3, ![100, 32, 1]⟩
abbrev S32x100x128 : Shape := ⟨3, ![32, 100, 128]⟩
abbrev S32x100x100 : Shape := ⟨3, ![32, 100, 100]⟩
abbrev S100x100 : Shape := ⟨2, ![100, 100]⟩
abbrev S100x31 : Shape := ⟨2, ![100, 31]⟩
abbrev S100 : Shape := ⟨1, ![100]⟩
abbrev S100x1 : Shape := ⟨2, ![100, 1]⟩
abbrev S3100 : Shape := ⟨1, ![3100]⟩
abbrev S3100x1 : Shape := ⟨2, ![3100, 1]⟩
abbrev S3100x2 : Shape := ⟨2, ![3100, 2]⟩
abbrev S1x9900 : Shape := ⟨2, ![1, 9900]⟩
abbrev S9900 : Shape := ⟨1, ![9900]⟩
abbrev S9900x1 : Shape := ⟨2, ![9900, 1]⟩
abbrev S9900x2 : Shape := ⟨2, ![9900, 2]⟩
abbrev S9900x1x1 : Shape := ⟨3, ![9900, 1, 1]⟩
abbrev S9900x32x128 : Shape := ⟨3, ![9900, 32, 128]⟩
abbrev S1x1x128 : Shape := ⟨3, ![1, 1, 128]⟩

abbrev nBuf : Space → Nat
  | .hbm => 260
  | .vmem => 0
  | .smem => 0
  | _ => 0

abbrev hbmTy0_0 (i : Nat) : BufTy := match i % 128 with
  | 0 => ⟨S32x128x100, .f32⟩
  | 1 => ⟨S2x9900, .i32⟩
  | 2 => ⟨S128x128, .f32⟩
  | 3 => ⟨S128, .f32⟩
  | 4 => ⟨S100x32x128, .f32⟩
  | 5 => ⟨S100x32x128, .f32⟩
  | 6 => ⟨S_, .f32⟩
  | 7 => ⟨S100x32, .f32⟩
  | 8 => ⟨S100x32x1, .f32⟩
  | 9 => ⟨S100x32x1, .f32⟩
  | 10 => ⟨S_, .f32⟩
  | 11 => ⟨S100x32x1, .f32⟩
  | 12 => ⟨S100x32x1, .f32⟩
  | 13 => ⟨S100x32x128, .f32⟩
  | 14 => ⟨S100x32x128, .f32⟩
  | 15 => ⟨S32x100x128, .f32⟩
  | 16 => ⟨S32x100x100, .f32⟩
  | 17 => ⟨S_, .f32⟩
  | 18 => ⟨S100x100, .f32⟩
  | 19 => ⟨S_, .f32⟩
  | 20 => ⟨S100x100, .f32⟩
  | 21 => ⟨S100x100, .f32⟩
  | 22 => ⟨S100x31, .f32⟩
  | 23 => ⟨S100x31, .i32⟩
  | 24 => ⟨S100, .i32⟩
  | 25 => ⟨S100x1, .i32⟩
  | 26 => ⟨S100x31, .i32⟩
  | 27 => ⟨S100x31, .i1⟩
  | 28 => ⟨S100x31, .i32⟩
  | 29 => ⟨S_, .i32⟩
  | 30 => ⟨S_, .i32⟩
  | 31 => ⟨S100x31, .i32⟩
  | 32 => ⟨S_, .i32⟩
  | 33 => ⟨S100x31, .i32⟩
  | 34 => ⟨S100x31, .i1⟩
  | 35 => ⟨S100x31, .i1⟩
  | 36 => ⟨S100, .i32⟩
  | 37 => ⟨S100x31, .i32⟩
  | 38 => ⟨S3100, .i32⟩
  | 39 => ⟨S_, .i32⟩
  | 40 => ⟨S100x100, .i32⟩
  | 41 => ⟨S3100, .i32⟩
  | 42 => ⟨S3100, .i1⟩
  | 43 => ⟨S3100, .i32⟩
  | 44 => ⟨S_, .i32⟩
  | 45 => ⟨S3100, .i32⟩
  | 46 => ⟨S3100, .i1⟩
  | 47 => ⟨S_, .i32⟩
  | 48 => ⟨S3100, .i32⟩
  | 49 => ⟨S3100, .i32⟩
  | 50 => ⟨S3100, .i32⟩
  | 51 => ⟨S_, .i32⟩
  | 52 => ⟨S3100, .i32⟩
  | 53 => ⟨S3100, .i1⟩
  | 54 => ⟨S_, .i32⟩
  | 55 => ⟨S3100, .i32⟩
  | 56 => ⟨S3100, .i32⟩
  | 57 => ⟨S3100, .i32⟩
  | 58 => ⟨S3100x1, .i32⟩
  | 59 => ⟨S3100x1, .i32⟩
  | 60 => ⟨S3100x2, .i32⟩
  | 61 => ⟨S100x100, .i32⟩
  | 62 => ⟨S1x9900, .i32⟩
  | 63 => ⟨S9900, .i32⟩
  | 64 => ⟨S1x9900, .i32⟩
  | 65 => ⟨S9900, .i32⟩
  | 66 => ⟨S_, .i32⟩
  | 67 => ⟨S9900, .i32⟩
  | 68 => ⟨S9900, .i1⟩
  | 69 => ⟨S_, .i32⟩
  | 70 => ⟨S9900, .i32⟩
  | 71 => ⟨S9900, .i32⟩
  | 72 => ⟨S9900, .i32⟩
  | 73 => ⟨S_, .i32⟩
  | 74 => ⟨S9900, .i32⟩
  | 75 => ⟨S9900, .i1⟩
  | 76 => ⟨S_, .i32⟩
  | 77 => ⟨S9900, .i32⟩
  | 78 => ⟨S9900, .i32⟩
  | 79 => ⟨S9900, .i32⟩
  | 80 => ⟨S9900x1, .i32⟩
  | 81 => ⟨S9900x1, .i32⟩
  | 82 => ⟨S9900x2, .i32⟩
  | 83 => ⟨S9900, .i32⟩
  | 84 => ⟨S9900, .f32⟩
  | 85 => ⟨S_, .i32⟩
  | 86 => ⟨S100x100, .i32⟩
  | 87 => ⟨S_, .i32⟩
  | 88 => ⟨S9900, .i32⟩
  | 89 => ⟨S9900, .i1⟩
  | 90 => ⟨S_, .i32⟩
  | 91 => ⟨S9900, .i32⟩
  | 92 => ⟨S9900, .i32⟩
  | 93 => ⟨S9900, .i32⟩
  | 94 => ⟨S_, .i32⟩
  | 95 => ⟨S9900, .i32⟩
  | 96 => ⟨S9900, .i1⟩
  | 97 => ⟨S_, .i32⟩
  | 98 => ⟨S9900, .i32⟩
  | 99 => ⟨S9900, .i32⟩
  | 100 => ⟨S9900, .i32⟩
  | 101 => ⟨S9900x1, .i32⟩
  | 102 => ⟨S9900x1, .i32⟩
  | 103 => ⟨S9900x2, .i32⟩
  | 104 => ⟨S100x100, .i32⟩
  | 105 => ⟨S100x100, .f32⟩
  | 106 => ⟨S100x100, .f32⟩
  | 107 => ⟨S100x100, .f32⟩
  | 108 => ⟨S_, .f32⟩
  | 109 => ⟨S_, .f32⟩
  | 110 => ⟨S_, .f32⟩
  | 111 => ⟨S100x100, .f32⟩
  | 112 => ⟨S100x100, .f32⟩
  | 113 => ⟨S_, .f32⟩
  | 114 => ⟨S100x100, .f32⟩
  | 115 => ⟨S100x100, .f32⟩
  | 116 => ⟨S100x100, .i32⟩
  | 117 => ⟨S100x100, .i32⟩
  | 118 => ⟨S_, .i32⟩
  | 119 => ⟨S100x100, .i32⟩
  | 120 => ⟨S100x100, .i32⟩
  | 121 => ⟨S100x100, .i1⟩
  | 122 => ⟨S100x100, .f32⟩
  | 123 => ⟨S100x100, .f32⟩
  | 124 => ⟨S_, .f32⟩
  | 125 => ⟨S_, .f32⟩
  | 126 => ⟨S_, .f32⟩
  | 127 => ⟨S100x100, .f32⟩
  | _ => ⟨S32x128x100, .f32⟩

abbrev hbmTy0_1 (i : Nat) : BufTy := match i % 128 with
  | 0 => ⟨S100x100, .f32⟩
  | 1 => ⟨S_, .f32⟩
  | 2 => ⟨S100x100, .f32⟩
  | 3 => ⟨S100x100, .f32⟩
  | 4 => ⟨S100x100, .f32⟩
  | 5 => ⟨S100x100, .f32⟩
  | 6 => ⟨S_, .f32⟩
  | 7 => ⟨S100x100, .f32⟩
  | 8 => ⟨S100x100, .i1⟩
  | 9 => ⟨S100x100, .f32⟩
  | 10 => ⟨S100x100, .f32⟩
  | 11 => ⟨S_, .f32⟩
  | 12 => ⟨S_, .f32⟩
  | 13 => ⟨S_, .f32⟩
  | 14 => ⟨S_, .i1⟩
  | 15 => ⟨S_, .f32⟩
  | 16 => ⟨S_, .f32⟩
  | 17 => ⟨S_, .f32⟩
  | 18 => ⟨S_, .f32⟩
  | 19 => ⟨S100x100, .f32⟩
  | 20 => ⟨S100x100, .i1⟩
  | 21 => ⟨S100x100, .f32⟩
  | 22 => ⟨S100x100, .f32⟩
  | 23 => ⟨S_, .f32⟩
  | 24 => ⟨S100x100, .f32⟩
  | 25 => ⟨S100x100, .f32⟩
  | 26 => ⟨S100x100, .f32⟩
  | 27 => ⟨S_, .f32⟩
  | 28 => ⟨S_, .f32⟩
  | 29 => ⟨S100x100, .f32⟩
  | 30 => ⟨S100x100, .f32⟩
  | 31 => ⟨S_, .i32⟩
  | 32 => ⟨S9900, .i32⟩
  | 33 => ⟨S9900, .i1⟩
  | 34 => ⟨S_, .i32⟩
  | 35 => ⟨S9900, .i32⟩
  | 36 => ⟨S9900, .i32⟩
  | 37 => ⟨S9900, .i32⟩
  | 38 => ⟨S_, .i32⟩
  | 39 => ⟨S9900, .i32⟩
  | 40 => ⟨S9900, .i1⟩
  | 41 => ⟨S_, .i32⟩
  | 42 => ⟨S9900, .i32⟩
  | 43 => ⟨S9900, .i32⟩
  | 44 => ⟨S9900, .i32⟩
  | 45 => ⟨S9900x1, .i32⟩
  | 46 => ⟨S9900x1, .i32⟩
  | 47 => ⟨S9900x2, .i32⟩
  | 48 => ⟨S9900, .f32⟩
  | 49 => ⟨S_, .i32⟩
  | 50 => ⟨S9900, .i32⟩
  | 51 => ⟨S9900, .i1⟩
  | 52 => ⟨S_, .i32⟩
  | 53 => ⟨S9900, .i32⟩
  | 54 => ⟨S9900, .i32⟩
  | 55 => ⟨S9900, .i32⟩
  | 56 => ⟨S_, .i32⟩
  | 57 => ⟨S9900, .i32⟩
  | 58 => ⟨S9900, .i1⟩
  | 59 => ⟨S_, .i32⟩
  | 60 => ⟨S9900, .i32⟩
  | 61 => ⟨S9900, .i32⟩
  | 62 => ⟨S9900, .i32⟩
  | 63 => ⟨S9900x1, .i32⟩
  | 64 => ⟨S9900x1, .i32⟩
  | 65 => ⟨S9900x2, .i32⟩
  | 66 => ⟨S9900, .f32⟩
  | 67 => ⟨S9900, .f32⟩
  | 68 => ⟨S9900, .f32⟩
  | 69 => ⟨S_, .f32⟩
  | 70 => ⟨S100, .f32⟩
  | 71 => ⟨S_, .i32⟩
  | 72 => ⟨S9900, .i32⟩
  | 73 => ⟨S9900, .i1⟩
  | 74 => ⟨S_, .i32⟩
  | 75 => ⟨S9900, .i32⟩
  | 76 => ⟨S9900, .i32⟩
  | 77 => ⟨S9900, .i32⟩
  | 78 => ⟨S9900x1, .i32⟩
  | 79 => ⟨S100, .f32⟩
  | 80 => ⟨S_, .f32⟩
  | 81 => ⟨S100, .f32⟩
  | 82 => ⟨S100, .f32⟩
  | 83 => ⟨S100, .f32⟩
  | 84 => ⟨S_, .f32⟩
  | 85 => ⟨S100, .f32⟩
  | 86 => ⟨S100, .i1⟩
  | 87 => ⟨S_, .f32⟩
  | 88 => ⟨S_, .f32⟩
  | 89 => ⟨S100, .f32⟩
  | 90 => ⟨S100, .f32⟩
  | 91 => ⟨S_, .i32⟩
  | 92 => ⟨S9900, .i32⟩
  | 93 => ⟨S9900, .i1⟩
  | 94 => ⟨S_, .i32⟩
  | 95 => ⟨S9900, .i32⟩
  | 96 => ⟨S9900, .i32⟩
  | 97 => ⟨S9900, .i32⟩
  | 98 => ⟨S9900x1, .i32⟩
  | 99 => ⟨S9900, .f32⟩
  | 100 => ⟨S9900, .f32⟩
  | 101 => ⟨S_, .i32⟩
  | 102 => ⟨S9900, .i32⟩
  | 103 => ⟨S9900, .i1⟩
  | 104 => ⟨S_, .i32⟩
  | 105 => ⟨S9900, .i32⟩
  | 106 => ⟨S9900, .i32⟩
  | 107 => ⟨S9900, .i32⟩
  | 108 => ⟨S9900x1, .i32⟩
  | 109 => ⟨S9900, .f32⟩
  | 110 => ⟨S9900, .f32⟩
  | 111 => ⟨S100x32x128, .f32⟩
  | 112 => ⟨S9900x1x1, .f32⟩
  | 113 => ⟨S_, .i32⟩
  | 114 => ⟨S9900, .i32⟩
  | 115 => ⟨S9900, .i1⟩
  | 116 => ⟨S_, .i32⟩
  | 117 => ⟨S9900, .i32⟩
  | 118 => ⟨S9900, .i32⟩
  | 119 => ⟨S9900, .i32⟩
  | 120 => ⟨S9900x1, .i32⟩
  | 121 => ⟨S9900x32x128, .f32⟩
  | 122 => ⟨S9900x32x128, .f32⟩
  | 123 => ⟨S9900x32x128, .f32⟩
  | 124 => ⟨S_, .f32⟩
  | 125 => ⟨S100x32x128, .f32⟩
  | 126 => ⟨S9900x1, .i32⟩
  | 127 => ⟨S100x32x128, .f32⟩
  | _ => ⟨S32x128x100, .f32⟩

abbrev hbmTy0_2 (i : Nat) : BufTy := match i % 128 with
  | 0 => ⟨S1x1x128, .f32⟩
  | 1 => ⟨S100x32x128, .f32⟩
  | 2 => ⟨S100x32x128, .f32⟩
  | 3 => ⟨S32x128x100, .f32⟩
  | _ => ⟨S32x128x100, .f32⟩

abbrev hbmTy (i : Nat) : BufTy := match i / 128 with
  | 0 => hbmTy0_0 i
  | 1 => hbmTy0_1 i
  | 2 => hbmTy0_2 i
  | _ => ⟨S32x128x100, .f32⟩

abbrev bufTy : (tb : Table) → Fin (tcTables nBuf tb) → BufTy
  | .hbm, ⟨i, _⟩ => hbmTy i
  | _, _ => ⟨S32x128x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_call0_c : Ref sig .tc := ⟨.hbm, 29, rfl⟩
abbrev main_call0_call0_v0 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_cst_18 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_20 : Ref sig .tc := ⟨.hbm, 124, rfl⟩
abbrev main_cst_21 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_23 : Ref sig .tc := ⟨.hbm, 139, rfl⟩
abbrev main_v96 : Ref sig .tc := ⟨.hbm, 140, rfl⟩
abbrev main_cst_24 : Ref sig .tc := ⟨.hbm, 141, rfl⟩
abbrev main_v97 : Ref sig .tc := ⟨.hbm, 142, rfl⟩
abbrev main_cst_25 : Ref sig .tc := ⟨.hbm, 143, rfl⟩
abbrev main_call3_v0 : Ref sig .tc := ⟨.hbm, 144, rfl⟩
abbrev main_v98 : Ref sig .tc := ⟨.hbm, 145, rfl⟩
abbrev main_cst_26 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_27 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_28 : Ref sig .tc := ⟨.hbm, 155, rfl⟩
abbrev main_call4_v0 : Ref sig .tc := ⟨.hbm, 156, rfl⟩
abbrev main_call4_v1 : Ref sig .tc := ⟨.hbm, 157, rfl⟩
abbrev main_v106 : Ref sig .tc := ⟨.hbm, 158, rfl⟩
abbrev main_c_29 : Ref sig .tc := ⟨.hbm, 159, rfl⟩
abbrev main_v107 : Ref sig .tc := ⟨.hbm, 160, rfl⟩
abbrev main_v108 : Ref sig .tc := ⟨.hbm, 161, rfl⟩
abbrev main_c_30 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_31 : Ref sig .tc := ⟨.hbm, 166, rfl⟩
abbrev main_v112 : Ref sig .tc := ⟨.hbm, 167, rfl⟩
abbrev main_v113 : Ref sig .tc := ⟨.hbm, 168, rfl⟩
abbrev main_c_32 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_33 : Ref sig .tc := ⟨.hbm, 177, rfl⟩
abbrev main_v121 : Ref sig .tc := ⟨.hbm, 178, rfl⟩
abbrev main_v122 : Ref sig .tc := ⟨.hbm, 179, rfl⟩
abbrev main_c_34 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_35 : Ref sig .tc := ⟨.hbm, 184, rfl⟩
abbrev main_v126 : Ref sig .tc := ⟨.hbm, 185, rfl⟩
abbrev main_v127 : Ref sig .tc := ⟨.hbm, 186, rfl⟩
abbrev main_c_36 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_37 : Ref sig .tc := ⟨.hbm, 197, rfl⟩
abbrev main_v137 : Ref sig .tc := ⟨.hbm, 198, rfl⟩
abbrev main_c_38 : Ref sig .tc := ⟨.hbm, 199, rfl⟩
abbrev main_v138 : Ref sig .tc := ⟨.hbm, 200, rfl⟩
abbrev main_v139 : Ref sig .tc := ⟨.hbm, 201, rfl⟩
abbrev main_c_39 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_40 : Ref sig .tc := ⟨.hbm, 208, rfl⟩
abbrev main_v145 : Ref sig .tc := ⟨.hbm, 209, rfl⟩
abbrev main_v146 : Ref sig .tc := ⟨.hbm, 210, rfl⟩
abbrev main_call5_v0 : Ref sig .tc := ⟨.hbm, 211, rfl⟩
abbrev main_call5_cst : Ref sig .tc := ⟨.hbm, 212, rfl⟩
abbrev main_call5_v1 : Ref sig .tc := ⟨.hbm, 213, rfl⟩
abbrev main_v147 : Ref sig .tc := ⟨.hbm, 214, rfl⟩
abbrev main_cst_41 : Ref sig .tc := ⟨.hbm, 215, rfl⟩
abbrev main_call6_v0 : Ref sig .tc := ⟨.hbm, 216, rfl⟩
abbrev main_call6_v1 : Ref sig .tc := ⟨.hbm, 217, rfl⟩
abbrev main_v148 : Ref sig .tc := ⟨.hbm, 218, rfl⟩
abbrev main_c_42 : Ref sig .tc := ⟨.hbm, 219, rfl⟩
abbrev main_v149 : Ref sig .tc := ⟨.hbm, 220, rfl⟩
abbrev main_v150 : Ref sig .tc := ⟨.hbm, 221, rfl⟩
abbrev main_c_43 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_c_44 : Ref sig .tc := ⟨.hbm, 229, rfl⟩
abbrev main_v157 : Ref sig .tc := ⟨.hbm, 230, rfl⟩
abbrev main_v158 : Ref sig .tc := ⟨.hbm, 231, rfl⟩
abbrev main_c_45 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_c_46 : Ref sig .tc := ⟨.hbm, 241, rfl⟩
abbrev main_v167 : Ref sig .tc := ⟨.hbm, 242, rfl⟩
abbrev main_v168 : Ref sig .tc := ⟨.hbm, 243, rfl⟩
abbrev main_c_47 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_cst_48 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩

abbrev nD : Nat := 1
abbrev τ : Topo := Topo.v7x

variable {F : FTy → Type} [FloatOps F]
-- ==== Proof.KernelSteps.lean ====
/- The kernel's computation written as a handful of named steps over whole arrays, and the statement that
   the list of stores its run leaves in the result buffer is the list of those steps' blocks. -/
module

public import proofs.«01_k».proof.Proof.Gen.KernelIdeal.Skeleton
public import proofs.«01_k».proof.Proof.Gen.KernelIdeal.Frame.RunA
public import Idealize.ShloMosaic.Lib.WritesUnit
public import Idealize.ShloMosaic.Lib.WholeRead

@[expose] public section

noncomputable section

namespace Cert.KernelIdeal.Steps

open Idealize.ShloMosaic Idealize.SL.Sem Cert.KernelIdeal Cert.KernelIdeal.Gen

variable {F : FTy → Type} [FloatOps F]

/-- The 0/1 floats of a truth array. -/
def oneZero {s : Shape} (b : IVec s 1) : FVec F s .f32 :=
  select b (broadcast s (Scalar.ofBits .f32 0x3F800000#32)) (broadcast s (Scalar.ofBits .f32 0x00000000#32))

/-- A column repeated along the lanes. -/
def spread {α : Type} (p : S128x1.Idx → α) : S128x128.Idx → α :=
  broadcastTo S128x128 (shapeCast S128x1 p shapeCasts_S128x1_S128x1) broadcasts_S128x1_S128x128

/-- The row sums of a square array, by a product with the column of ones. -/
def rowSums (a : FVec F S128x128 .f32) : FVec F S128x1 .f32 :=
  matmul dot_S128x128_S128x1_S128x1_1_0_0_1_n_n none a k0_pay10 (constant S128x1 .f32 0x00000000#32)

/-- How many keys of each row are at least the row's threshold plus `c`. -/
def countGe (key : IVec S128x128 32) (pb : IVec S128x128 32) (c : BitVec 32) : FVec F S128x1 .f32 :=
  rowSums (oneZero (cmpi .sge key (addi pb (broadcast S128x128 c))))

/-- How many of the first `n` multiples of `2 ^ t` keep at least 30 keys at or above the raised threshold. -/
def digit (key : IVec S128x128 32) (pb : IVec S128x128 32) (t : ℕ) : ℕ → FVec F S128x1 .f32
  | 0 => broadcast S128x1 (Scalar.ofBits .f32 0x00000000#32)
  | n + 1 => addf (digit key pb t n) (oneZero (cmpf .oge (countGe (F := F) key pb (BitVec.ofNat 32 ((n + 1) * 2 ^ t)))
      (broadcast S128x1 (Scalar.ofBits .f32 0x41F00000#32))))

/-- One step of the search: the threshold raised by the greatest multiple of `2 ^ t` that keeps 30 keys. -/
def stage (key : IVec S128x128 32) (t : ℕ) (p : IVec S128x1 32) : IVec S128x1 32 :=
  addi p (shli (fptosi 32 (digit (F := F) key (spread p) t 15)) (broadcast S128x1 (BitVec.ofNat 32 t)))

/-- The threshold of each row: eight steps, four bits at a time, from the least integer. -/
def threshold (key : IVec S128x128 32) : IVec S128x1 32 :=
  stage (F := F) key 0 (stage (F := F) key 4 (stage (F := F) key 8 (stage (F := F) key 12
    (stage (F := F) key 16 (stage (F := F) key 20 (stage (F := F) key 24 (stage (F := F) key 28 k0_pay13)))))))

/-- The row number of each element. -/
def rowIx : IVec S128x128 32 := iota .tc S128x128 32 [0] iota_S128x128_d0_w32

/-- The column number of each element. -/
def colIx : IVec S128x128 32 := iota .tc S128x128 32 [1] iota_S128x128_d1_w32

/-- 1 where the key is above its row's threshold. -/
def above (key : IVec S128x128 32) (p : IVec S128x1 32) : FVec F S128x128 .f32 := oneZero (cmpi .sgt key (spread p))

/-- 1 where the key is its row's threshold. -/
def onThr (key : IVec S128x128 32) (p : IVec S128x1 32) : FVec F S128x128 .f32 := oneZero (cmpi .eq key (spread p))

/-- How many keys of the row stand before each place: those above the threshold, and those on it to the left. -/
def before (key : IVec S128x128 32) (p : IVec S128x1 32) : FVec F S128x128 .f32 :=
  addf (spread (rowSums (above key p)))
    (matmul dot_S128x128_S128x128_S128x128_1_0_0_1_n_n none (onThr key p) (oneZero (cmpi .slt rowIx colIx))
      (constant S128x128 .f32 0x00000000#32))

/-- 1 in the rows that are nodes. -/
def rowValid : FVec F S128x128 .f32 := oneZero (cmpi .slt rowIx (broadcast S128x128 100#32))

/-- The directed neighbour mask. -/
def mask (key : IVec S128x128 32) (p : IVec S128x1 32) : FVec F S128x128 .f32 :=
  mulf (addf (above key p) (mulf (onThr key p)
    (oneZero (cmpf .olt (before (F := F) key p) (broadcast S128x128 (Scalar.ofBits .f32 0x41F00000#32)))))) rowValid

/-- The undirected adjacency of a mask. -/
def adj (mk : FVec F S128x128 .f32) : FVec F S128x128 .f32 :=
  minimumf (broadcast S128x128 (Scalar.ofBits .f32 0x3F800000#32))
    (maximumf (broadcast S128x128 (Scalar.ofBits .f32 0x00000000#32))
      (addf mk (matmul dot_S128x128_S128x128_S128x128_0_0_1_1_n_n none mk k0_pay9 (constant S128x128 .f32 0x00000000#32))))

/-- The neighbour mask with each node its own neighbour. -/
def nbr (mk : FVec F S128x128 .f32) : FVec F S128x128 .f32 :=
  addf (adj mk) (mulf (mulf k0_pay9 rowValid) (oneZero (cmpi .slt colIx (broadcast S128x128 100#32))))

/-- The number of common neighbours. -/
def common (mk : FVec F S128x128 .f32) : FVec F S128x128 .f32 :=
  matmul dot_S128x128_S128x128_S128x128_1_1_0_0_n_n none (nbr mk) (nbr mk) (constant S128x128 .f32 0x00000000#32)

/-- The greatest number of common neighbours. -/
def maxCommon (mk : FVec F S128x128 .f32) : F .f32 :=
  extractAt ![0, 0, 0] (shapeCast S1x1x1 (multiReduction .maximumf [1, 2] S1
    (shapeCast S1x128x128 (common mk) shapeCasts_S128x128_S1x128x128) 0xFF800000#32 reduces_S1x128x128_S1 (.inl rfl) rfl)
    shapeCasts_S1_S1x1x1) inpos_S1x1x1_p0_0_0

/-- The greatest number of common neighbours, or 1 when it is not positive. -/
def denom (mk : FVec F S128x128 .f32) : F .f32 :=
  Scalar.select (Scalar.cmpf .ogt (maxCommon mk) (Scalar.ofBits .f32 0x00000000#32)) (maxCommon mk)
    (Scalar.ofBits .f32 0x3F800000#32)

/-- The structural coefficient of each undirected edge with more than one common neighbour. -/
def structural (mk : FVec F S128x128 .f32) : FVec F S128x128 .f32 :=
  select (cmpf .ogt (mulf (adj mk) (oneZero (cmpf .ogt (common mk) (broadcast S128x128 (Scalar.ofBits .f32 0x3F800000#32)))))
      (broadcast S128x128 (Scalar.ofBits .f32 0x00000000#32)))
    (mulf (divf (common mk) (broadcast S128x128 (denom mk))) (common mk))
    (broadcast S128x128 (Scalar.ofBits .f32 0x00000000#32))

/-- The edge weights: similarity plus structure, on the directed mask. -/
def fused (sim mk : FVec F S128x128 .f32) : FVec F S128x128 .f32 := mulf (addf sim (structural mk)) mk

/-- The weighted in-degree to the power -1/2. -/
def degPow (fu : FVec F S128x128 .f32) : FVec F S1x128 .f32 :=
  powf (shapeCast S1x128 (multiReduction .add [0] S128 fu 0x00000000#32 reduces_S128x128_S128 (.inl rfl) rfl)
    shapeCasts_S128_S1x128) (broadcast S1x128 (Scalar.ofBits .f32 0xBF000000#32))

/-- The normaliser of each node, 0 where the power is infinite. -/
def dinv (fu : FVec F S128x128 .f32) : FVec F S1x128 .f32 :=
  select (cmpf .oeq (absf (degPow fu)) (broadcast S1x128 (Scalar.ofBits .f32 0x7F800000#32)))
    (broadcast S1x128 (Scalar.ofBits .f32 0x00000000#32)) (degPow fu)

/-- A row as a column, by a product with the identity. -/
def column (r : FVec F S1x128 .f32) : FVec F S128x1 .f32 :=
  matmul dot_S128x128_S1x128_S128x1_1_1_0_0_n_n none k0_pay9 r (constant S128x1 .f32 0x00000000#32)

/-- The normalised weights. -/
def weights (fu : FVec F S128x128 .f32) : FVec F S128x128 .f32 :=
  mulf (mulf (broadcastTo S128x128 (column (dinv fu)) broadcasts_S128x1_S128x128) fu)
    (broadcastTo S128x128 (dinv fu) broadcasts_S1x128_S128x128)

/-- The features propagated along the weights. -/
def propagated (x : FVec F S32x128x100 .f32) (wn : FVec F S128x128 .f32) : FVec F S32x128x128 .f32 :=
  shapeCast S32x128x128 (matmul dot_S4096x128_S128x128_S4096x128_1_0_0_1_n_n none (k0_pay6 x) wn
    (constant S4096x128 .f32 0x00000000#32)) shapeCasts_S4096x128_S32x128x128

/-- Sample `b` of the propagated features fits. -/
theorem slices_sample (b : Fin 32) : S32x128x128.Slices ![b.val, 0, 0] S1x128x128 := by
  revert b; decide

/-- Sample `b` of the result: the linear map of the propagated features, plus the bias, cut to the nodes. -/
def sample (w : FVec F S128x128 .f32) (p3 : FVec F S32x128x128 .f32) (bc : FVec F S128x1 .f32) (b : Fin 32) :
    FVec F S1x128x100 .f32 :=
  shapeCast S1x128x100 (extractStridedSlice S128x100 ![0, 0]
    (addf (matmul dot_S128x128_S128x128_S128x128_0_0_1_1_n_n none w
        (shapeCast S128x128 (extractStridedSlice S1x128x128 ![b.val, 0, 0] p3 (slices_sample b)) shapeCasts_S1x128x128_S128x128)
        (constant S128x128 .f32 0x00000000#32))
      (broadcastTo S128x128 bc broadcasts_S128x1_S128x128)) slices_S128x128_o0_0_S128x100) shapeCasts_S128x100_S1x128x100

/-- The sort keys of the features: the rank of each similarity in its row. -/
def keys (x : FVec F S32x128x100 .f32) : IVec S128x128 32 := k0_pay12 (k0_pay11 x)

/-- The mask of the features. -/
def maskOf (x : FVec F S32x128x100 .f32) : FVec F S128x128 .f32 := mask (keys x) (threshold (F := F) (keys x))

/-- The weights of the features. -/
def weightsOf (x : FVec F S32x128x100 .f32) : FVec F S128x128 .f32 := weights (fused (k0_pay7 x) (maskOf x))

/-- Where sample `b`'s block of the result starts. -/
def off (b : Fin 32) : Fin S32x128x100.rank → ℕ := ![b.val, 0, 0]

/-- Sample `b`'s block lies in the result. -/
theorem inb (b : Fin 32) (a : Fin S32x128x100.rank) : off b a + S1x128x100.size a ≤ S32x128x100.size a := by
  revert a b; decide

/-- Sample `b`'s block of the result. -/
def block (x : FVec F S32x128x100 .f32) (w : FVec F S128x128 .f32) (bias : FVec F S1x128 .f32) (b : Fin 32) :
    FVec F S1x128x100 .f32 :=
  sample w (propagated x (weightsOf x)) (column (k0_pay4 bias)) b

/-- The features as the kernel loads them. -/
def load0 (arg0 : Memref sig .tc .vmem S32x128x100 .f32) (harg0 : arg0.IsWhole) (x0 : Vec F S32x128x100 .f32) :
    FVec F S32x128x100 .f32 :=
  View.readAt (Elt F) arg0.view (Rect.unit ![0, 0, 0] S32x128x100.size inb_S32x128x100_S32x128x100_0_0_0).toLoadRect
    (harg0.unread x0)

/-- The linear map as the kernel loads it. -/
def load1 (arg1 : Memref sig .tc .vmem S128x128 .f32) (harg1 : arg1.IsWhole) (x1 : Vec F S128x128 .f32) :
    FVec F S128x128 .f32 :=
  View.readAt (Elt F) arg1.view (Rect.unit ![0, 0] S128x128.size inb_S128x128_S128x128_0_0).toLoadRect (harg1.unread x1)

/-- The bias as the kernel loads it. -/
def load2 (arg2 : Memref sig .tc .vmem S1x128 .f32) (harg2 : arg2.IsWhole) (x2 : Vec F S1x128 .f32) : FVec F S1x128 .f32 :=
  View.readAt (Elt F) arg2.view (Rect.unit ![0, 0] S1x128.size inb_S1x128_S1x128_0_0).toLoadRect (harg2.unread x2)

/-- A load of a whole buffer reads what the buffer holds. -/
theorem load_whole {s : Shape} {e : EltTy} (m : Memref sig .tc .vmem s e) (h : m.IsWhole) (X : s.Idx → Elt F e)
    {off : Fin s.rank → ℕ} (hoff : off = fun _ => 0) (hin : ∀ a, off a + s.size a ≤ s.size a) :
    View.readAt (Elt F) m.view (Rect.unit off s.size hin).toLoadRect (h.unread X) = X := by
  subst hoff
  funext x
  rw [h.readAt_unread]
  show X ((Rect.whole s).emb x) = X x
  rw [Rect.emb_whole_apply]

/-- The load of the whole features block reads the block. -/
theorem load0_eq (arg0 : Memref sig .tc .vmem S32x128x100 .f32) (harg0 : arg0.IsWhole) (x0 : Vec F S32x128x100 .f32) :
    load0 arg0 harg0 x0 = x0 := load_whole arg0 harg0 x0 (funext fun a => by fin_cases a <;> rfl) _

/-- The load of the whole map reads the map. -/
theorem load1_eq (arg1 : Memref sig .tc .vmem S128x128 .f32) (harg1 : arg1.IsWhole) (x1 : Vec F S128x128 .f32) :
    load1 arg1 harg1 x1 = x1 := load_whole arg1 harg1 x1 (funext fun a => by fin_cases a <;> rfl) _

/-- The load of the bias row reads the row. -/
theorem load2_eq (arg2 : Memref sig .tc .vmem S1x128 .f32) (harg2 : arg2.IsWhole) (x2 : Vec F S1x128 .f32) :
    load2 arg2 harg2 x2 = x2 := load_whole arg2 harg2 x2 (funext fun a => by fin_cases a <;> rfl) _

/-- The stores the kernel's run leaves are the thirty-two blocks of what it loads. -/
theorem pieces_eq (c : Dev nD) (arg0 : Memref sig .tc .vmem S32x128x100 .f32) (harg0 : arg0.IsWhole)
    (arg1 : Memref sig .tc .vmem S128x128 .f32) (harg1 : arg1.IsWhole) (arg2 : Memref sig .tc .vmem S1x128 .f32)
    (harg2 : arg2.IsWhole) (arg3 : Memref sig .tc .vmem S32x128x100 .f32) (harg3 : arg3.IsWhole)
    (arg4 : Memref sig .tc .vmem S8x128 .f32) (harg4 : arg4.IsWhole)
    (x0 : Vec F S32x128x100 .f32) (x1 : Vec F S128x128 .f32) (x2 : Vec F S1x128 .f32) :
    (kernelRun0_A c arg0 harg0 arg1 harg1 arg2 harg2 arg3 harg3 arg4 harg4 x0 x1 x2).1
      = View.tilePieces (s := S32x128x100) (e := .f32) (Val := Elt F) S1x128x100.size off inb
          (block (load0 arg0 harg0 x0) (load1 arg1 harg1 x1) (load2 arg2 harg2 x2)) 32 (le_refl 32) := by
  sl_kernel_rfl

end Cert.KernelIdeal.Steps

end
-- ==== Proof.Select.lean ====
/- Selecting the 30 first places of a row: the bitwise search for the threshold, the ranks used as keys, and the
   number of places standing before each place. Nothing here is about floats or arrays. -/
module

public import Mathlib.Data.Fintype.Card
public import Mathlib.Data.Fintype.BigOperators
public import Idealize.ShloMosaic.Lib.Pointwise
public import Mathlib.Order.Interval.Finset.Fin
public import Mathlib.Data.Fin.Basic
public import Mathlib.Order.Basic

@[expose] public section

namespace Cert.Select

open Finset

/-- How many keys are at least `T`. -/
def countFrom (key : Fin 128 → BitVec 32) (T : ℤ) : ℕ := (univ.filter fun i => T ≤ (key i).toInt).card

/-- A higher threshold keeps no more keys. -/
theorem countFrom_anti (key : Fin 128 → BitVec 32) {S T : ℤ} (h : S ≤ T) : countFrom key T ≤ countFrom key S :=
  card_le_card (monotone_filter_right _ fun _ _ hi => le_trans h hi)

/-- How many of the first `n` multiples of `2 ^ t` keep at least 30 keys above the raised threshold. -/
def digit (key : Fin 128 → BitVec 32) (p : BitVec 32) (t : ℕ) : ℕ → ℕ
  | 0 => 0
  | n + 1 => digit key p t n + if 30 ≤ countFrom key (p + BitVec.ofNat 32 ((n + 1) * 2 ^ t)).toInt then 1 else 0

/-- The threshold `p` keeps 30 keys, `p + 2 ^ t` does not, and their range does not leave the integers of 32 bits. -/
def Bracket (key : Fin 128 → BitVec 32) (p : BitVec 32) (t : ℕ) : Prop :=
  30 ≤ countFrom key p.toInt ∧ countFrom key (p.toInt + 2 ^ t) < 30 ∧ p.toInt + 2 ^ t ≤ 2 ^ 31

/-- Counting the steps of a property that, once false, stays false, finds its last true step. -/
theorem count_last (Q : ℕ → Prop) [DecidablePred Q] (d : ℕ → ℕ) (N : ℕ) (h0 : d 0 = 0)
    (hs : ∀ n, n < N → d (n + 1) = d n + if Q (n + 1) then 1 else 0) (hQ : ∀ j, Q (j + 1) → Q j) (hQ0 : Q 0) (n : ℕ)
    (hn : n ≤ N) : d n ≤ n ∧ Q (d n) ∧ (d n < n → ¬ Q (d n + 1)) := by
  induction n with
  | zero => rw [h0]; exact ⟨le_refl _, hQ0, fun h => absurd h (lt_irrefl _)⟩
  | succ n ih =>
    obtain ⟨h1, h2, h3⟩ := ih (by omega)
    have mono : ∀ a b, Q (a + b) → Q a := by
      intro a b
      induction b with
      | zero => exact id
      | succ b ihb => exact fun h => ihb (hQ _ h)
    rw [hs n (by omega)]
    by_cases h : Q (n + 1)
    · rw [if_pos h]
      have hd : d n = n := by
        by_contra hne
        have hlt : d n < n := lt_of_le_of_ne h1 hne
        refine h3 hlt (mono (d n + 1) (n - d n) ?_)
        rwa [show d n + 1 + (n - d n) = n + 1 by omega]
      rw [hd]
      exact ⟨le_refl _, h, fun h => absurd h (lt_irrefl _)⟩
    · rw [if_neg h, Nat.add_zero]
      refine ⟨by omega, h2, fun _ => ?_⟩
      by_cases hlt : d n < n
      · exact h3 hlt
      · rwa [show d n = n by omega]

/-- A threshold raised within its bracket does not wrap. -/
theorem toInt_add_step (p : BitVec 32) (s : ℕ) (h : p.toInt + s < 2 ^ 31) :
    (p + BitVec.ofNat 32 s).toInt = p.toInt + s := by
  have hp : -(2 ^ 31) ≤ p.toInt := by have := BitVec.le_toInt p; simpa using this
  rw [BitVec.toInt_add, show (BitVec.ofNat 32 s).toInt = (s : ℤ).bmod (2 ^ 32) from BitVec.toInt_ofNat' .., Int.add_bmod_bmod]
  apply Int.bmod_eq_of_le <;> omega

/-- One step of the search narrows the bracket by four bits. -/
theorem Bracket.step {key : Fin 128 → BitVec 32} {p : BitVec 32} {t : ℕ} (h : Bracket key p (t + 4)) :
    Bracket key (p + BitVec.ofNat 32 (digit key p t 15 * 2 ^ t)) t := by
  obtain ⟨h1, h2, h3⟩ := h
  have hpow : (2 : ℤ) ^ (t + 4) = 16 * 2 ^ t := by rw [pow_add]; ring
  have hpos : (0 : ℤ) < 2 ^ t := by positivity
  rw [hpow] at h2 h3
  have hint : ∀ j : ℕ, j ≤ 15 → (p + BitVec.ofNat 32 (j * 2 ^ t)).toInt = p.toInt + j * 2 ^ t := by
    intro j hj
    have : (j : ℤ) * 2 ^ t ≤ 15 * 2 ^ t := by
      apply mul_le_mul_of_nonneg_right _ hpos.le
      exact_mod_cast hj
    rw [toInt_add_step]
    · push_cast; rfl
    · push_cast; linarith
  have key' := count_last (fun j => 30 ≤ countFrom key (p.toInt + j * 2 ^ t)) (digit key p t) 15 rfl
    (by
      intro n hn
      simp only [digit, hint (n + 1) (by omega)])
    (by
      intro j hj
      refine le_trans hj (countFrom_anti key ?_)
      push_cast
      nlinarith) (by simpa using h1) 15 (le_refl _)
  obtain ⟨k1, k2, k3⟩ := key'
  generalize digit key p t 15 = d at *
  refine ⟨by rw [hint d k1]; exact k2, ?_, ?_⟩
  · rw [hint d k1]
    by_cases hd : d < 15
    · have := k3 hd
      rw [not_le] at this
      refine lt_of_le_of_lt (countFrom_anti key (le_of_eq ?_)) this
      push_cast; ring
    · have hd' : d = 15 := by omega
      subst hd'
      refine lt_of_le_of_lt (countFrom_anti key (le_of_eq ?_)) h2
      push_cast; ring
  · rw [hint d k1]
    have : (d : ℤ) * 2 ^ t ≤ 15 * 2 ^ t := mul_le_mul_of_nonneg_right (by exact_mod_cast k1) hpos.le
    linarith

/-- The search starts from the least integer. -/
theorem Bracket.start (key : Fin 128 → BitVec 32) : Bracket key 2147483648#32 32 := by
  have hm : (2147483648#32 : BitVec 32).toInt = -2147483648 := by decide
  refine ⟨?_, ?_, by rw [hm]; norm_num⟩
  · rw [hm]
    have : countFrom key (-2147483648) = 128 := by
      unfold countFrom
      rw [Finset.filter_true_of_mem]
      · simp
      · intro i _
        have := BitVec.le_toInt (key i); simpa using this
    omega
  · rw [hm]
    have : countFrom key (-2147483648 + 2 ^ 32) = 0 := by
      unfold countFrom
      rw [Finset.card_eq_zero, Finset.filter_eq_empty_iff]
      intro i _
      have := BitVec.toInt_lt (x := key i)
      norm_num at this ⊢
      omega
    omega

/-- The place `i` stands before the place `j`: its value is greater, or the same and it is further left. -/
def Before {n : ℕ} {α : Type} [LinearOrder α] (v : Fin n → α) (i j : Fin n) : Prop := v j < v i ∨ (v i = v j ∧ i < j)

instance {n : ℕ} {α : Type} [LinearOrder α] (v : Fin n → α) (i j : Fin n) : Decidable (Before v i j) := by
  unfold Before; infer_instance

/-- At the end of the search, the keys above the threshold and those on it with few enough places before them are the
    places with fewer than 30 before them. -/
theorem selected_iff (key : Fin 128 → BitVec 32) (p : BitVec 32) (h : Bracket key p 0) (j : Fin 128) :
    (p.toInt < (key j).toInt ∨ (key j).toInt = p.toInt ∧
        (univ.filter fun i => p.toInt < (key i).toInt).card
          + (univ.filter fun i => (key i).toInt = p.toInt ∧ i < j).card < 30)
      ↔ (univ.filter fun i => Before (fun i => (key i).toInt) i j).card < 30 := by
  obtain ⟨h1, h2, -⟩ := h
  have h2' : (univ.filter fun i => p.toInt < (key i).toInt).card < 30 := by
    refine lt_of_le_of_lt (card_le_card ?_) h2
    intro i
    simp only [mem_filter, mem_univ, true_and, pow_zero]
    omega
  rcases lt_trichotomy (key j).toInt p.toInt with hlt | heq | hgt
  · constructor
    · rintro (h | ⟨h, -⟩) <;> omega
    · intro h
      exfalso
      refine absurd h (not_lt.mpr (le_trans h1 (card_le_card ?_)))
      exact fun i hi => mem_filter.mpr ⟨mem_univ _, Or.inl (lt_of_lt_of_le hlt (mem_filter.mp hi).2)⟩
  · have : (univ.filter fun i => Before (fun i => (key i).toInt) i j)
        = (univ.filter fun i => p.toInt < (key i).toInt) ∪ (univ.filter fun i => (key i).toInt = p.toInt ∧ i < j) := by
      ext i
      simp only [mem_filter, mem_univ, true_and, Before, mem_union, heq]
    rw [this, card_union_of_disjoint]
    · simp [heq]
    · rw [disjoint_filter]
      intro i _ ha hb
      omega
  · constructor
    · intro _
      refine lt_of_le_of_lt (card_le_card ?_) h2'
      intro i hi
      refine mem_filter.mpr ⟨mem_univ _, ?_⟩
      rcases (mem_filter.mp hi).2 with h | ⟨h, -⟩
      · exact lt_trans hgt h
      · exact lt_of_lt_of_eq hgt h.symm
    · intro _
      exact Or.inl hgt

/-- The rank of a place: how many places hold a smaller value. -/
def rank {n : ℕ} {α : Type} [LinearOrder α] (v : Fin n → α) (i : Fin n) : ℕ := (univ.filter fun l => v l < v i).card

/-- A place of greater value has a greater rank. -/
theorem rank_lt {n : ℕ} {α : Type} [LinearOrder α] (v : Fin n → α) {i j : Fin n} (h : v i < v j) : rank v i < rank v j := by
  refine card_lt_card ⟨?_, ?_⟩
  · intro l
    simp only [mem_filter, mem_univ, true_and]
    exact fun hl => lt_trans hl h
  · intro hsub
    have := hsub (show i ∈ univ.filter fun l => v l < v j by simpa using h)
    simp at this

/-- Ranks order places as the values do. -/
theorem before_rank {n : ℕ} {α : Type} [LinearOrder α] (v : Fin n → α) (i j : Fin n) :
    Before (fun i => (rank v i : ℤ)) i j ↔ Before v i j := by
  unfold Before
  beta_reduce
  rcases lt_trichotomy (v i) (v j) with h | h | h
  · have := rank_lt v h
    constructor
    · rintro (h' | ⟨h', -⟩) <;> omega
    · rintro (h' | ⟨h', -⟩)
      · exact absurd h' (not_lt.mpr h.le)
      · exact absurd h' h.ne
  · have : rank v i = rank v j := by unfold rank; rw [h]
    simp [h, this]
  · have := rank_lt v h
    constructor
    · intro _; exact Or.inl h
    · intro _; left; exact_mod_cast this

/-- The neighbours the row of `n` chooses: other nodes with fewer than 30 other nodes before them. -/
def Chosen {α : Type} [LinearOrder α] (v : Fin 100 → α) (n j : Fin 100) : Prop :=
  j ≠ n ∧ (univ.filter fun i => i ≠ n ∧ Before v i j).card < 30

instance {α : Type} [LinearOrder α] (v : Fin 100 → α) (n j : Fin 100) : Decidable (Chosen v n j) := by
  unfold Chosen; infer_instance

/-- A node as a place of the padded row. -/
def pad (i : Fin 100) : Fin 128 := ⟨i.val, by omega⟩

/-- Different nodes are at different places. -/
theorem pad_inj {a b : Fin 100} (h : pad a = pad b) : a = b := Fin.ext (by simpa [pad] using congrArg Fin.val h)

/-- The padded row, with its own place and the places past the nodes at the bottom, chooses the same. -/
theorem chosen_pad {α : Type} [LinearOrder α] [OrderBot α] (v : Fin 100 → α) (n : Fin 100) (hv : ∀ i, ⊥ < v i)
    (s : Fin 128 → α) (hs : ∀ i : Fin 100, i ≠ n → s (pad i) = v i) (hn : s (pad n) = ⊥)
    (hout : ∀ i : Fin 128, 100 ≤ i.val → s i = ⊥) (j : Fin 128) :
    (univ.filter fun i => Before s i j).card < 30 ↔ ∃ j' : Fin 100, j = pad j' ∧ Chosen v n j' := by
  have padInj : Function.Injective pad := fun a b h => pad_inj h
  by_cases hj : ∃ j' : Fin 100, j = pad j' ∧ j' ≠ n
  · obtain ⟨j', rfl, hjn⟩ := hj
    have hset : (univ.filter fun i => Before s i (pad j')) = (univ.filter fun i => i ≠ n ∧ Before v i j').image pad := by
      ext i
      rw [mem_image, mem_filter]
      simp only [mem_univ, true_and, Before, hs j' hjn]
      constructor
      · intro h
        have hbot : s i ≠ ⊥ := by
          intro hb
          rcases h with h | ⟨h, -⟩
          · rw [hb] at h; exact absurd h not_lt_bot
          · rw [hb] at h; exact absurd (hv j') (by rw [← h]; exact lt_irrefl _)
        have hi : i.val < 100 := by
          by_contra hc
          exact hbot (hout i (by omega))
        have hii : i = pad ⟨i.val, hi⟩ := rfl
        have hin : (⟨i.val, hi⟩ : Fin 100) ≠ n := by
          intro he
          exact hbot (by rw [hii, he, hn])
        rw [hii, hs _ hin] at h
        exact ⟨⟨i.val, hi⟩, mem_filter.mpr ⟨mem_univ _, hin, h⟩, rfl⟩
      · rintro ⟨i', hi', rfl⟩
        obtain ⟨hin, h⟩ := (mem_filter.mp hi').2
        rw [hs i' hin]
        exact h
    rw [hset, card_image_of_injective _ padInj]
    constructor
    · intro h
      exact ⟨j', rfl, hjn, h⟩
    · rintro ⟨j'', he, hc⟩
      rw [padInj he]
      exact hc.2
  · have hb : s j = ⊥ := by
      by_cases hj100 : j.val < 100
      · have he : j = pad ⟨j.val, hj100⟩ := rfl
        have : (⟨j.val, hj100⟩ : Fin 100) = n := by
          by_contra hne
          exact hj ⟨_, he, hne⟩
        rw [he, this, hn]
      · exact hout j (by omega)
    constructor
    · intro h
      exfalso
      have : 99 ≤ (univ.filter fun i => Before s i j).card := by
        have hc : ((univ.filter fun i : Fin 100 => i ≠ n).image pad).card = 99 := by
          rw [card_image_of_injective _ padInj, filter_ne' univ n, card_erase_of_mem (mem_univ n)]
          simp
        rw [← hc]
        refine card_le_card ?_
        intro i hi
        obtain ⟨i', hi', rfl⟩ := mem_image.mp hi
        have hin : i' ≠ n := (mem_filter.mp hi').2
        refine mem_filter.mpr ⟨mem_univ _, ?_⟩
        left
        rw [hb, hs i' hin]
        exact hv i'
      omega
    · rintro ⟨j', he, hc⟩
      exact absurd ⟨j', he, hc.1⟩ hj

/-- Walking the nodes in order and keeping the first 30 that are not `n` within the first 31 finds the chosen ones. -/
theorem chosen_sorted {α : Type} [LinearOrder α] (v : Fin 100 → α) (n : Fin 100) (σ : Fin 100 → Fin 100)
    (hσ : Function.Bijective σ) (hord : ∀ a b, a < b → Before v (σ a) (σ b)) (j : Fin 100) :
    (∃ r : Fin 31, σ ⟨r.val, by omega⟩ = j ∧ σ ⟨r.val, by omega⟩ ≠ n
        ∧ (univ.filter fun q : Fin 31 => q ≤ r ∧ σ ⟨q.val, by omega⟩ ≠ n).card ≤ 30)
      ↔ Chosen v n j := by
  have hord' : ∀ a b, Before v (σ a) (σ b) ↔ a < b := by
    intro a b
    refine ⟨fun h => ?_, hord a b⟩
    rcases lt_trichotomy a b with hab | hab | hab
    · exact hab
    · subst hab
      rcases h with h | ⟨-, h⟩ <;> exact absurd h (lt_irrefl _)
    · exfalso
      rcases h with h | ⟨h, h'⟩ <;> rcases hord b a hab with g | ⟨g, g'⟩
      · exact lt_asymm h g
      · rw [g] at h; exact lt_irrefl _ h
      · rw [h] at g; exact lt_irrefl _ g
      · exact lt_asymm h' g'
  obtain ⟨R, rfl⟩ := hσ.2 j
  have hcount : (univ.filter fun i => i ≠ n ∧ Before v i (σ R)).card = (univ.filter fun q => q < R ∧ σ q ≠ n).card := by
    rw [← card_image_of_injective (univ.filter fun q => q < R ∧ σ q ≠ n) hσ.1]
    congr 1
    ext i
    simp only [mem_filter, mem_univ, true_and, mem_image]
    constructor
    · rintro ⟨h1, h2⟩
      obtain ⟨q, rfl⟩ := hσ.2 i
      exact ⟨q, ⟨(hord' q R).mp h2, h1⟩, rfl⟩
    · rintro ⟨q, ⟨h1, h2⟩, rfl⟩
      exact ⟨h2, (hord' q R).mpr h1⟩
  unfold Chosen
  rw [hcount]
  have hle : ∀ (hR : R.val < 31), σ R ≠ n →
      (univ.filter fun q : Fin 31 => q ≤ ⟨R.val, hR⟩ ∧ σ ⟨q.val, by omega⟩ ≠ n).card
        = (univ.filter fun q => q < R ∧ σ q ≠ n).card + 1 := by
    intro hR hne
    have : ((univ.filter fun q : Fin 31 => q ≤ ⟨R.val, hR⟩ ∧ σ ⟨q.val, by omega⟩ ≠ n).image
        fun q : Fin 31 => (⟨q.val, by omega⟩ : Fin 100)) = insert R (univ.filter fun q => q < R ∧ σ q ≠ n) := by
      ext q
      simp only [mem_image, mem_filter, mem_univ, true_and, mem_insert]
      constructor
      · rintro ⟨q', ⟨h1, h2⟩, rfl⟩
        have h1' : q'.val ≤ R.val := h1
        rcases Nat.lt_or_ge q'.val R.val with h | h
        · exact Or.inr ⟨h, h2⟩
        · exact Or.inl (Fin.ext (by show q'.val = R.val; omega))
      · rintro (rfl | ⟨h1, h2⟩)
        · exact ⟨⟨q.val, hR⟩, ⟨le_refl _, hne⟩, rfl⟩
        · have h1' : q.val < R.val := h1
          exact ⟨⟨q.val, by omega⟩, ⟨by show q.val ≤ R.val; omega, h2⟩, rfl⟩
    rw [← card_insert_of_notMem (s := univ.filter fun q => q < R ∧ σ q ≠ n) (a := R) (by simp), ← this,
      card_image_of_injective]
    intro a b h
    exact Fin.ext (by simpa using congrArg Fin.val h)
  constructor
  · rintro ⟨r, hr, hne, hc⟩
    have hrR : (⟨r.val, by omega⟩ : Fin 100) = R := hσ.1 hr
    have hR : R.val < 31 := by rw [← hrR]; exact r.isLt
    rw [hr] at hne
    have hr' : r = ⟨R.val, hR⟩ := Fin.ext (show r.val = R.val by rw [← hrR])
    subst hr'
    have := hle hR hne
    exact ⟨hne, by omega⟩
  · rintro ⟨hne, hc⟩
    have hR : R.val < 31 := by
      by_contra hR
      have hsub : ((univ.filter fun q => q < R).erase (Function.surjInv hσ.surjective n)) ⊆ (univ.filter fun q => q < R ∧ σ q ≠ n) := by
        intro q
        simp only [mem_erase, mem_filter, mem_univ, true_and]
        rintro ⟨h1, h2⟩
        refine ⟨h2, fun h => h1 (hσ.1 ?_)⟩
        rw [h, Function.surjInv_eq hσ.surjective]
      have h1 := card_le_card hsub
      have h2 := pred_card_le_card_erase (s := univ.filter fun q => q < R) (a := Function.surjInv hσ.surjective n)
      have h3 : (univ.filter fun q => q < R).card = R.val := by
        rw [show (univ.filter fun q => q < R) = Finset.Iio R by ext; simp, Fin.card_Iio]
      omega
    refine ⟨⟨R.val, hR⟩, rfl, hne, ?_⟩
    have := hle hR hne
    omega

end Cert.Select
-- ==== Proof.Scalars.lean ====
/- Facts about single extended reals and single integers: which operations keep a value real, the constants' values,
   and what a comparison of integers, of counts and of nodes decides. -/
module

public import proofs.«01_k».proof.Proof.Select
public import Idealize.ShloMosaic.Lib.Pointwise
public import Idealize.ShloMosaic.Lib.IdealHost

@[expose] public section

noncomputable section

namespace Cert.Scalars

open Idealize.ShloMosaic Finset

/-- The value is a real number. -/
def IsReal (a : EReal) : Prop := ∃ r : ℝ, a = r

theorem IsReal.zero : IsReal 0 := ⟨0, rfl⟩

/-- One is real. -/
theorem IsReal.one : IsReal 1 := ⟨1, rfl⟩

/-- A sum of reals is real. -/
theorem IsReal.add {a b : EReal} : IsReal a → IsReal b → IsReal (a + b) := by
  rintro ⟨r, rfl⟩ ⟨s, rfl⟩
  exact ⟨r + s, (EReal.coe_add r s).symm⟩

/-- A product of reals is real. -/
theorem IsReal.mul {a b : EReal} : IsReal a → IsReal b → IsReal (a * b) := by
  rintro ⟨r, rfl⟩ ⟨s, rfl⟩
  exact ⟨r * s, (EReal.coe_mul r s).symm⟩

/-- The larger of two reals is real. -/
theorem IsReal.max {a b : EReal} (ha : IsReal a) (hb : IsReal b) : IsReal (max a b) := by
  rcases le_total a b with h | h
  · rwa [max_eq_right h]
  · rwa [max_eq_left h]

/-- The smaller of two reals is real. -/
theorem IsReal.min {a b : EReal} (ha : IsReal a) (hb : IsReal b) : IsReal (min a b) := by
  rcases le_total a b with h | h
  · rwa [min_eq_left h]
  · rwa [min_eq_right h]

/-- A choice of two reals is real. -/
theorem IsReal.ite {p : Prop} [Decidable p] {a b : EReal} (ha : IsReal a) (hb : IsReal b) : IsReal (if p then a else b) := by
  split_ifs <;> assumption

/-- A finite sum of reals is real. -/
theorem IsReal.sum {ι : Type} (s : Finset ι) (f : ι → EReal) (h : ∀ i, IsReal (f i)) : IsReal (∑ i ∈ s, f i) := by
  classical
  induction s using Finset.induction_on with
  | empty => rw [sum_empty]; exact IsReal.zero
  | insert i s hi ih => rw [sum_insert hi]; exact (h i).add ih

/-- A quotient of reals by a nonzero one is real. -/
theorem IsReal.div {a b : EReal} : IsReal a → IsReal b → b ≠ 0 → IsReal (Ideal.div a b) := by
  rintro ⟨r, rfl⟩ ⟨s, rfl⟩ hs
  rw [Ideal.div_coe (by exact_mod_cast hs)]
  exact IsReal.mul ⟨r, rfl⟩ ⟨1 / s, rfl⟩

/-- A power of reals is real. -/
theorem IsReal.pow {a b : EReal} : IsReal a → IsReal b → IsReal (Ideal.pow a b) := by
  rintro ⟨r, rfl⟩ ⟨s, rfl⟩
  exact ⟨Real.rpow r s, rfl⟩

/-- The root of a nonnegative real is a nonnegative real. -/
theorem IsReal.sqrt {a : EReal} : IsReal a → 0 ≤ a → IsReal (Ideal.sqrt a) := by
  rintro ⟨r, rfl⟩ h
  have : 0 ≤ r := by exact_mod_cast h
  exact ⟨Real.sqrt r, by rw [Ideal.sqrt_coe, if_neg (not_lt.mpr this)]⟩

/-- A value whose magnitude is below the infinity is real. -/
theorem IsReal.of_bounds {a : EReal} (h1 : a ≠ ⊤) (h2 : a ≠ ⊥) : IsReal a := ⟨a.toReal, (EReal.coe_toReal h1 h2).symm⟩

/-- A square of a real is not negative. -/
theorem sq_nonneg {a : EReal} : IsReal a → 0 ≤ a * a := by
  rintro ⟨r, rfl⟩
  rw [← EReal.coe_mul]
  exact_mod_cast mul_self_nonneg r

/-- The first power of a real is that real. -/
theorem pow_one {a : EReal} : IsReal a → Ideal.pow a 1 = a := by
  rintro ⟨r, rfl⟩
  rw [show (1 : EReal) = ((1 : ℝ) : EReal) from rfl, Ideal.pow_coe_coe]
  exact congrArg _ (Real.rpow_one r)

/-- A real factor distributes over a sum of reals. -/
theorem mul_sum_real {ι : Type} (s : Finset ι) (a : EReal) (f : ι → EReal) (ha : IsReal a) (h : ∀ i, IsReal (f i)) :
    a * ∑ i ∈ s, f i = ∑ i ∈ s, a * f i := by
  classical
  induction s using Finset.induction_on with
  | empty => simp
  | insert i s hi ih =>
    rw [sum_insert hi, sum_insert hi, ← ih]
    obtain ⟨r, rfl⟩ := ha
    obtain ⟨u, hu⟩ := h i
    obtain ⟨v, hv⟩ := IsReal.sum s f h
    rw [hu, hv]
    norm_cast
    ring

/-- The pattern of 30. -/
theorem bits_30 : Ideal.ofBits .f32 0x41F00000#32 = ((30 : ℕ) : EReal) := by
  rw [show ((30 : ℕ) : EReal) = ((30 : ℝ) : EReal) by norm_cast]
  simp [Ideal.ofBits, Ideal.ieee, -EReal.coe_mul]; norm_num

/-- The pattern of 32. -/
theorem bits_32 : Ideal.ofBits .f32 0x42000000#32 = ((32 : ℝ) : EReal) := by
  simp [Ideal.ofBits, Ideal.ieee, -EReal.coe_mul]; norm_num

/-- The pattern of 1/32. -/
theorem bits_inv32 : Ideal.ofBits .f32 0x3D000000#32 = ((1 / 32 : ℝ) : EReal) := by
  simp [Ideal.ofBits, Ideal.ieee, -EReal.coe_mul]; norm_num

/-- The pattern of -1/2. -/
theorem bits_neg_half : IsReal (Ideal.ofBits .f32 0xBF000000#32) := by
  refine ⟨-(1 / 2), ?_⟩
  simp [Ideal.ofBits, Ideal.ieee, -EReal.coe_mul, -EReal.coe_neg]; norm_num

/-- The smallest norm divided by is a positive real. -/
theorem bits_eps : ∃ r : ℝ, 0 < r ∧ Ideal.ofBits .f32 0x2B8CBCCC#32 = r := by
  refine ⟨9223372 * 2 ^ (-63 : ℤ), by positivity, ?_⟩
  simp [Ideal.ofBits, Ideal.ieee, -EReal.coe_mul]

/-- The word of +∞. -/
theorem bits_top : Ideal.ofBits .f32 0x7F800000#32 = ⊤ := by
  simp [Ideal.ofBits, Ideal.ieee]

/-- The word of −∞. -/
theorem bits_bot : Ideal.ofBits .f32 0xFF800000#32 = ⊥ := by
  simp [Ideal.ofBits, Ideal.ieee]

/-- Choosing by a decided truth. -/
theorem select_ofBool {α : Type} (p : Prop) [Decidable p] (x y : α) :
    Scalar.select (BitVec.ofBool (decide p)) x y = if p then x else y := by
  by_cases h : p <;> simp [Scalar.select, h]

/-- A choice by a signed ≥. -/
theorem select_sge {α : Type} (a b : BitVec 32) (x y : α) :
    Scalar.select (IntOp.cmpi .sge a b) x y = if b.toInt ≤ a.toInt then x else y := select_ofBool (b.toInt ≤ a.toInt) x y

/-- A choice by a signed >. -/
theorem select_sgt {α : Type} (a b : BitVec 32) (x y : α) :
    Scalar.select (IntOp.cmpi .sgt a b) x y = if b.toInt < a.toInt then x else y := select_ofBool (b.toInt < a.toInt) x y

/-- A choice by a signed <. -/
theorem select_slt {α : Type} (a b : BitVec 32) (x y : α) :
    Scalar.select (IntOp.cmpi .slt a b) x y = if a.toInt < b.toInt then x else y := select_ofBool (a.toInt < b.toInt) x y

/-- A choice by equality. -/
theorem select_eq {α : Type} (a b : BitVec 32) (x y : α) :
    Scalar.select (IntOp.cmpi .eq a b) x y = if a.toInt = b.toInt then x else y := by
  unfold IntOp.cmpi Scalar.select
  by_cases h : a = b
  · subst h; simp
  · have : ¬ a.toInt = b.toInt := fun hh => h (BitVec.toInt_inj.mp hh)
    rw [if_neg this, if_neg]
    show ¬ BitVec.ofBool (a == b) = 1#1
    rw [show (a == b) = false from beq_false_of_ne h]
    decide

/-- A small natural number as a word. -/
theorem toInt_small (n : ℕ) (h : n < 2 ^ 31) : (BitVec.ofNat 32 n).toInt = n := by
  rw [show (BitVec.ofNat 32 n).toInt = (n : ℤ).bmod (2 ^ 32) from BitVec.toInt_ofNat' ..]
  apply Int.bmod_eq_of_le <;> omega

/-- A count as an extended real. -/
theorem sum_count {n : ℕ} (p : Fin n → Prop) [DecidablePred p] :
    (∑ i, if p i then (1 : EReal) else 0) = ((univ.filter p).card : EReal) := Finset.sum_boole _ _

theorem natCast_le (a b : ℕ) : ((a : EReal) ≤ (b : EReal)) ↔ a ≤ b := EReal.natCast_le_iff

/-- Naturals compare as extended reals as they do as naturals. -/
theorem natCast_lt (a b : ℕ) : ((a : EReal) < (b : EReal)) ↔ a < b := EReal.natCast_lt_iff

/-- A small count converted to a word. -/
theorem fptosi_natCast (n : ℕ) (h : n < 2 ^ 31) : FloatOps.fptosi (F := Ideal) (φ := .f32) 32 (n : EReal) = BitVec.ofNat 32 n := by
  show Ideal.fptosi 32 (n : EReal) = _
  unfold Ideal.fptosi
  rw [show (n : EReal) = ((n : ℝ) : EReal) by norm_cast, Ideal.toIntClamped_coe]
  simp only [Nat.cast_nonneg, if_true, Int.floor_natCast]
  rw [show max (-((2 ^ (32 - 1) : ℕ) : ℤ)) (min (((2 ^ (32 - 1) : ℕ) : ℤ) - 1) (n : ℤ)) = (n : ℤ) by norm_num; omega]
  exact BitVec.ofInt_natCast 32 n

/-- A word shifted left is multiplied by the power of two. -/
theorem shli_ofNat (d t : ℕ) (ht : t < 32) :
    IntOp.shli .vector (BitVec.ofNat 32 d) (BitVec.ofNat 32 t) = BitVec.ofNat 32 (d * 2 ^ t) := by
  have h : (BitVec.ofNat 32 t).toNat = t := by simp; omega
  unfold IntOp.shli
  rw [if_pos (by omega)]
  rw [show BitVec.ofNat 32 d <<< BitVec.ofNat 32 t = BitVec.ofNat 32 d <<< t by
    show BitVec.ofNat 32 d <<< (BitVec.ofNat 32 t).toNat = _
    rw [h]]
  apply BitVec.eq_of_toNat_eq
  simp [Nat.shiftLeft_eq]

/-- A sum over the padded places of something zero past the nodes is the sum over the nodes. -/
theorem sum_pad (f : Fin 128 → EReal) (h : ∀ i : Fin 128, 100 ≤ i.val → f i = 0) : ∑ i, f i = ∑ i : Fin 100, f (Select.pad i) := by
  have := Fin.sum_univ_add (a := 100) (b := 28) f
  rw [show (∑ i, f i) = ∑ i : Fin (100 + 28), f i from rfl, this]
  rw [show (∑ i : Fin 28, f (Fin.natAdd 100 i)) = 0 from Finset.sum_eq_zero fun i _ => h _ (by simp [Fin.natAdd])]
  rw [add_zero]
  rfl

/-- The greatest of values that are zero past the nodes and not negative at them. -/
theorem fold_max_pad (f : Fin 128 → Fin 128 → EReal) (g : Fin 100 → Fin 100 → EReal)
    (hin : ∀ i j, f (Select.pad i) (Select.pad j) = g i j) (hnn : ∀ i j, 0 ≤ g i j)
    (hout : ∀ i j : Fin 128, 100 ≤ i.val ∨ 100 ≤ j.val → f i j = 0) :
    Finset.fold max ⊥ (fun x : Fin 128 × Fin 128 => f x.1 x.2) univ
      = Finset.fold max ⊥ (fun x : Fin 100 × Fin 100 => g x.1 x.2) univ := by
  apply le_antisymm
  · rw [Finset.fold_max_le]
    refine ⟨bot_le, fun x _ => ?_⟩
    by_cases h : x.1.val < 100 ∧ x.2.val < 100
    · rw [Finset.le_fold_max]
      right
      exact ⟨(⟨x.1.val, h.1⟩, ⟨x.2.val, h.2⟩), mem_univ _, le_of_eq (hin ⟨x.1.val, h.1⟩ ⟨x.2.val, h.2⟩)⟩
    · rw [hout x.1 x.2 (by omega), Finset.le_fold_max]
      right
      exact ⟨(0, 0), mem_univ _, hnn 0 0⟩
  · rw [Finset.fold_max_le]
    refine ⟨bot_le, fun x _ => ?_⟩
    rw [Finset.le_fold_max]
    right
    exact ⟨(Select.pad x.1, Select.pad x.2), mem_univ _, le_of_eq (hin x.1 x.2).symm⟩

end Cert.Scalars
-- ==== Proof.Spec.lean ====
/- The function both programs compute, over the hundred nodes and in the extended reals. -/
module

public import proofs.«01_k».proof.Proof.Scalars

@[expose] public section

noncomputable section

namespace Cert.Spec

open Idealize.ShloMosaic Finset Cert.Select Cert.Scalars

/-- A normalised feature: the feature over its node's norm, the norm kept away from zero. -/
def unit (x : Fin 32 → Fin 128 → Fin 100 → EReal) (b : Fin 32) (s : Fin 128) (n : Fin 100) : EReal :=
  Ideal.div (x b s n) (max (Ideal.sqrt (∑ s', x b s' n * x b s' n)) (Ideal.ofBits .f32 0x2B8CBCCC#32))

/-- The mean similarity of two nodes. -/
def sim (x : Fin 32 → Fin 128 → Fin 100 → EReal) (n m : Fin 100) : EReal :=
  Ideal.div (∑ b, ∑ s, unit x b s n * unit x b s m) ((32 : ℝ) : EReal)

section Graph

variable (v : Fin 100 → Fin 100 → EReal)

/-- 1 where the row chooses the node as a neighbour. -/
def mask (i j : Fin 100) : EReal := if Chosen (v i) i j then 1 else 0

/-- The undirected adjacency. -/
def adj (i j : Fin 100) : EReal := min 1 (max 0 (mask v i j + mask v j i))

/-- The neighbours, each node its own neighbour. -/
def nbr (i j : Fin 100) : EReal := adj v i j + if i = j then 1 else 0

/-- The number of common neighbours. -/
def common (i j : Fin 100) : EReal := ∑ k, nbr v i k * nbr v j k

/-- The greatest number of common neighbours. -/
def top : EReal := Finset.fold max ⊥ (fun p : Fin 100 × Fin 100 => common v p.1 p.2) univ

/-- What the counts are divided by. -/
def denom : EReal := if 0 < top v then top v else 1

/-- The structural coefficient. -/
def structural (i j : Fin 100) : EReal :=
  if 0 < adj v i j * (if 1 < common v i j then 1 else 0) then Ideal.div (common v i j) (denom v) * common v i j else 0

/-- The weight of an edge. -/
def fused (i j : Fin 100) : EReal := (v i j + structural v i j) * mask v i j

/-- The weighted in-degree to the power -1/2. -/
def degPow (j : Fin 100) : EReal := Ideal.pow (∑ i, fused v i j) (Ideal.ofBits .f32 0xBF000000#32)

/-- The normaliser of a node. -/
def dinv (j : Fin 100) : EReal := if FloatOps.absf (F := Ideal) (φ := .f32) (degPow v j) = ⊤ then 0 else degPow v j

/-- The normalised weight of an edge. -/
def weight (i j : Fin 100) : EReal := dinv v i * fused v i j * dinv v j

/-- The result: the propagated features, mapped linearly, plus the bias. -/
def out (x : Fin 32 → Fin 128 → Fin 100 → EReal) (w : Fin 128 → Fin 128 → EReal) (bias : Fin 128 → EReal) (b : Fin 32)
    (t : Fin 128) (j : Fin 100) : EReal := (∑ s, w s t * ∑ m, x b s m * weight v m j) + bias t

theorem mask_self (i : Fin 100) : mask v i i = 0 := if_neg fun h => h.1 rfl

/-- The mask is real. -/
theorem isReal_mask (i j : Fin 100) : IsReal (mask v i j) := IsReal.ite IsReal.one IsReal.zero

/-- The adjacency is real. -/
theorem isReal_adj (i j : Fin 100) : IsReal (adj v i j) :=
  IsReal.one.min (IsReal.zero.max ((isReal_mask v i j).add (isReal_mask v j i)))

/-- The adjacency is not negative. -/
theorem adj_nonneg (i j : Fin 100) : 0 ≤ adj v i j := le_min zero_le_one (le_max_left _ _)

/-- No node is adjacent to itself. -/
theorem adj_self (i : Fin 100) : adj v i i = 0 := by
  unfold adj
  rw [mask_self, add_zero, max_self]
  exact min_eq_right zero_le_one

/-- The adjacency with each node joined to itself is real. -/
theorem isReal_nbr (i j : Fin 100) : IsReal (nbr v i j) := (isReal_adj v i j).add (IsReal.ite IsReal.one IsReal.zero)

/-- It is not negative. -/
theorem nbr_nonneg (i j : Fin 100) : 0 ≤ nbr v i j := by
  refine add_nonneg (adj_nonneg v i j) ?_
  split_ifs <;> simp

/-- Clipping the neighbours changes nothing: no node is adjacent to itself. -/
theorem clip_nbr (i j : Fin 100) : min 1 (max 0 (nbr v i j)) = nbr v i j := by
  rw [max_eq_right (nbr_nonneg v i j)]
  apply min_eq_right
  unfold nbr
  split_ifs with h
  · subst h
    rw [adj_self, zero_add]
  · rw [add_zero]
    exact min_le_left _ _

/-- The counts of common neighbours are real. -/
theorem isReal_common (i j : Fin 100) : IsReal (common v i j) :=
  IsReal.sum _ _ fun k => (isReal_nbr v i k).mul (isReal_nbr v j k)

/-- The counts are not negative. -/
theorem common_nonneg (i j : Fin 100) : 0 ≤ common v i j :=
  sum_nonneg fun k _ => mul_nonneg (nbr_nonneg v i k) (nbr_nonneg v j k)

/-- The divisor of the structural term is real. -/
theorem isReal_denom : IsReal (denom v) := by
  unfold denom
  split_ifs with h
  · refine IsReal.of_bounds ?_ (ne_of_gt (lt_trans EReal.bot_lt_zero h))
    refine ne_of_lt ?_
    unfold top
    rw [Finset.fold_max_lt]
    refine ⟨bot_lt_top, fun p _ => ?_⟩
    obtain ⟨r, hr⟩ := isReal_common v p.1 p.2
    rw [hr]
    exact EReal.coe_lt_top r
  · exact IsReal.one

/-- That divisor is not zero. -/
theorem denom_ne : denom v ≠ 0 := by
  unfold denom
  split_ifs with h
  · exact ne_of_gt h
  · exact one_ne_zero

/-- The structural term is real. -/
theorem isReal_structural (i j : Fin 100) : IsReal (structural v i j) :=
  IsReal.ite (((isReal_common v i j).div (isReal_denom v) (denom_ne v)).mul (isReal_common v i j)) IsReal.zero

variable (hv : ∀ i j, IsReal (v i j))
include hv

/-- The weight before normalisation is real. -/
theorem isReal_fused (i j : Fin 100) : IsReal (fused v i j) :=
  ((hv i j).add (isReal_structural v i j)).mul (isReal_mask v i j)

/-- The inverse root of a degree is real. -/
theorem isReal_dinv (j : Fin 100) : IsReal (dinv v j) :=
  IsReal.ite IsReal.zero ((IsReal.sum _ _ fun i => isReal_fused v hv i j).pow bits_neg_half)

/-- The normalised weight is real. -/
theorem isReal_weight (i j : Fin 100) : IsReal (weight v i j) :=
  ((isReal_dinv v hv i).mul (isReal_fused v hv i j)).mul (isReal_dinv v hv j)

end Graph

/-- Of real features, the normalised features are real. -/
theorem isReal_unit (x : Fin 32 → Fin 128 → Fin 100 → EReal) (hx : ∀ b s n, IsReal (x b s n)) (b : Fin 32) (s : Fin 128)
    (n : Fin 100) : IsReal (unit x b s n) := by
  obtain ⟨e, he, hb⟩ := bits_eps
  unfold unit
  rw [hb]
  refine (hx b s n).div (IsReal.max ?_ ⟨e, rfl⟩) (ne_of_gt (lt_max_of_lt_right (by exact_mod_cast he)))
  exact IsReal.sqrt (IsReal.sum _ _ fun s' => (hx b s' n).mul (hx b s' n)) (sum_nonneg fun s' _ => sq_nonneg (hx b s' n))

/-- Of real features, the mean similarities are real. -/
theorem isReal_sim (x : Fin 32 → Fin 128 → Fin 100 → EReal) (hx : ∀ b s n, IsReal (x b s n)) (n m : Fin 100) :
    IsReal (sim x n m) :=
  (IsReal.sum _ _ fun b => IsReal.sum _ _ fun s => (isReal_unit x hx b s n).mul (isReal_unit x hx b s m)).div ⟨32, rfl⟩
    (by norm_num)

/-- The linear map may be applied before the propagation: everything is real. -/
theorem out_eq (v : Fin 100 → Fin 100 → EReal) (hv : ∀ i j, IsReal (v i j)) (x : Fin 32 → Fin 128 → Fin 100 → EReal)
    (hx : ∀ b s n, IsReal (x b s n)) (w : Fin 128 → Fin 128 → EReal) (hw : ∀ s t, IsReal (w s t)) (bias : Fin 128 → EReal)
    (b : Fin 32) (t : Fin 128) (j : Fin 100) :
    out v x w bias b t j = (∑ m, weight v m j * ∑ s, x b s m * w s t) + bias t := by
  unfold out
  congr 1
  have h1 : ∀ s, w s t * ∑ m, x b s m * weight v m j = ∑ m, w s t * (x b s m * weight v m j) := fun s =>
    mul_sum_real _ _ _ (hw s t) fun m => (hx b s m).mul (isReal_weight v hv m j)
  have h2 : ∀ m, weight v m j * ∑ s, x b s m * w s t = ∑ s, weight v m j * (x b s m * w s t) := fun m =>
    mul_sum_real _ _ _ (isReal_weight v hv m j) fun s => (hx b s m).mul (hw s t)
  simp only [h1, h2]
  rw [Finset.sum_comm]
  exact sum_congr rfl fun m _ => sum_congr rfl fun s _ => by
    rw [mul_comm (x b s m) (weight v m j), mul_left_comm, mul_comm (w s t)]

end Cert.Spec
-- ==== Proof.KernelValue.lean ====
/- The kernel's steps read at an element, in the extended reals: each is the specification's function at the nodes and
   zero at the padding. -/
module

public import proofs.«01_k».proof.Proof.KernelSteps
public import proofs.«01_k».proof.Proof.Spec

@[expose] public section

noncomputable section

namespace Cert.KernelIdeal.Steps

open Idealize.ShloMosaic Idealize.SL.Sem Cert.KernelIdeal Cert.KernelIdeal.Gen Cert.Select Cert.Scalars Finset

/-- The node numbers are small integers. -/
theorem toInt_fin {n : ℕ} (i : Fin n) (h : n ≤ 128) : (BitVec.ofNat 32 i.val).toInt = i.val :=
  toInt_small _ (by omega)

theorem toInt_100 : (100#32 : BitVec 32).toInt = 100 := by decide

/-- The row sums count. -/
theorem rowSums_apply (a : FVec Ideal S128x128 .f32) (i : Fin 128) : rowSums a (ix2 i 0) = ∑ j, a (ix2 i j) := by
  pointwise [rowSums, k0_pay10]

theorem spread_apply {α : Type} (p : S128x1.Idx → α) (i j : Fin 128) : spread p (ix2 i j) = p (ix2 i 0) := by
  pointwise [spread]

/-- The count is the number of keys of the row at or above the prefix plus the step. -/
theorem countGe_apply (key : IVec S128x128 32) (p : IVec S128x1 32) (c : BitVec 32) (i : Fin 128) :
    countGe (F := Ideal) key (spread p) c (ix2 i 0)
      = (countFrom (fun j => key (ix2 i j)) (p (ix2 i 0) + c).toInt : EReal) := by
  have h : countGe (F := Ideal) key (spread p) c (ix2 i 0)
      = ∑ j, Scalar.select (IntOp.cmpi .sge (key (ix2 i j)) (p (ix2 i 0) + c)) 1 0 := by
    unfold countGe
    rw [rowSums_apply]
    refine sum_congr rfl fun j _ => ?_
    pointwise [oneZero, spread]
    rfl
  rw [h]
  simp only [select_sge]
  exact sum_count _

/-- The digit is the number of steps at which at least thirty keys of the row remain. -/
theorem digit_apply (key : IVec S128x128 32) (p : IVec S128x1 32) (t n : ℕ) (i : Fin 128) :
    digit (F := Ideal) key (spread p) t n (ix2 i 0)
      = (Select.digit (fun j => key (ix2 i j)) (p (ix2 i 0)) t n : EReal) := by
  induction n with
  | zero =>
    unfold digit
    pointwise
    simp [Select.digit]
  | succ n ih =>
    have h : digit (F := Ideal) key (spread p) t (n + 1) (ix2 i 0) = digit (F := Ideal) key (spread p) t n (ix2 i 0)
        + if ((30 : ℕ) : EReal) ≤ countGe (F := Ideal) key (spread p) (BitVec.ofNat 32 ((n + 1) * 2 ^ t)) (ix2 i 0) then 1 else 0 := by
      rw [digit, ← bits_30]
      pointwise [oneZero]
    rw [h, ih, countGe_apply, Select.digit]
    simp only [natCast_le]
    split_ifs <;> simp

/-- Counting `n` steps gives at most `n`. -/
theorem digit_le (key : Fin 128 → BitVec 32) (p : BitVec 32) (t n : ℕ) : Select.digit key p t n ≤ n := by
  induction n with
  | zero => exact le_refl _
  | succ n ih =>
    rw [Select.digit]
    split_ifs <;> omega

/-- One stage adds to the prefix the digit at its place. -/
theorem stage_apply (key : IVec S128x128 32) (t : ℕ) (ht : t < 32) (p : IVec S128x1 32) (i : Fin 128) :
    stage (F := Ideal) key t p (ix2 i 0)
      = p (ix2 i 0) + BitVec.ofNat 32 (Select.digit (fun j => key (ix2 i j)) (p (ix2 i 0)) t 15 * 2 ^ t) := by
  have h : stage (F := Ideal) key t p (ix2 i 0) = p (ix2 i 0) + IntOp.shli .vector
      (FloatOps.fptosi (F := Ideal) (φ := .f32) 32 (digit (F := Ideal) key (spread p) t 15 (ix2 i 0))) (BitVec.ofNat 32 t) := by
    unfold stage
    pointwise
    rfl
  have := digit_le (fun j => key (ix2 i j)) (p (ix2 i 0)) t 15
  rw [h, digit_apply, fptosi_natCast _ (by omega), shli_ofNat _ _ ht]

/-- A step of the kernel narrows the bracket of each row. -/
theorem bracket_stage (key : IVec S128x128 32) (t : ℕ) (ht : t < 32) (p : IVec S128x1 32) (i : Fin 128)
    (h : Bracket (fun j => key (ix2 i j)) (p (ix2 i 0)) (t + 4)) :
    Bracket (fun j => key (ix2 i j)) (stage (F := Ideal) key t p (ix2 i 0)) t := by
  rw [stage_apply key t ht]
  exact h.step

/-- The threshold of a row keeps 30 keys, and the next integer does not. -/
theorem bracket_threshold (key : IVec S128x128 32) (i : Fin 128) :
    Bracket (fun j => key (ix2 i j)) (threshold (F := Ideal) key (ix2 i 0)) 0 := by
  unfold threshold
  refine bracket_stage key 0 (by norm_num) _ i (bracket_stage key 4 (by norm_num) _ i (bracket_stage key 8 (by norm_num) _ i
    (bracket_stage key 12 (by norm_num) _ i (bracket_stage key 16 (by norm_num) _ i (bracket_stage key 20 (by norm_num) _ i
      (bracket_stage key 24 (by norm_num) _ i (bracket_stage key 28 (by norm_num) _ i ?_)))))))
  exact Bracket.start _

/-- The mask at a place of a row: 1 in the rows of nodes where fewer than 30 keys stand before the place. -/
theorem mask_apply (key : IVec S128x128 32) (i j : Fin 128) :
    mask (F := Ideal) key (threshold (F := Ideal) key) (ix2 i j)
      = if i.val < 100 ∧ (univ.filter fun l => Before (fun l => (key (ix2 i l)).toInt) l j).card < 30 then 1 else 0 := by
  rw [← if_congr (and_congr_right' (selected_iff _ _ (bracket_threshold key i) j)) rfl rfl]
  generalize threshold (F := Ideal) key = p
  have hbefore : before (F := Ideal) key p (ix2 i j)
      = (((univ.filter fun l => (p (ix2 i 0)).toInt < (key (ix2 i l)).toInt).card
        + (univ.filter fun l => (key (ix2 i l)).toInt = (p (ix2 i 0)).toInt ∧ l < j).card : ℕ) : EReal) := by
    pointwise [before, rowSums, above, onThr, oneZero, spread, k0_pay10, rowIx, colIx]
    simp only [select_slt, select_eq, select_sgt, toInt_fin _ (le_refl 128)]
    rw [Nat.cast_add, ← sum_count, ← sum_count]
    congr 1
    refine sum_congr rfl fun l _ => ?_
    by_cases h1 : l < j <;> by_cases h2 : (key (ix2 i l)).toInt = (p (ix2 i 0)).toInt <;> simp [h1, h2]
  have hmask : mask (F := Ideal) key p (ix2 i j)
      = (Scalar.select (IntOp.cmpi .sgt (key (ix2 i j)) (p (ix2 i 0))) 1 0
        + Scalar.select (IntOp.cmpi .eq (key (ix2 i j)) (p (ix2 i 0))) 1 0
          * (if before (F := Ideal) key p (ix2 i j) < ((30 : ℕ) : EReal) then 1 else 0))
        * Scalar.select (IntOp.cmpi .slt (BitVec.ofNat 32 i.val) 100#32) 1 0 := by
    rw [← bits_30]
    pointwise [mask, above, onThr, oneZero, spread, rowValid, rowIx]
  rw [hmask, hbefore]
  simp only [select_slt, select_eq, select_sgt, toInt_fin _ (le_refl 128), toInt_100, natCast_lt]
  by_cases h1 : i.val < 100
  · have h1' : (i.val : ℤ) < 100 := by omega
    rw [if_pos h1', mul_one]
    simp only [h1, true_and]
    by_cases h2 : (p (ix2 i 0)).toInt < (key (ix2 i j)).toInt
    · have h3 : ¬ (key (ix2 i j)).toInt = (p (ix2 i 0)).toInt := by omega
      simp [h2, h3]
    · by_cases h3 : (key (ix2 i j)).toInt = (p (ix2 i 0)).toInt
      · simp [h3]
      · simp [h2, h3]
  · have h1' : ¬ (i.val : ℤ) < 100 := by omega
    rw [if_neg h1', mul_zero, if_neg (by tauto)]

end Cert.KernelIdeal.Steps
-- ==== Proof.KernelGraph.lean ====
/- The kernel's steps from the similarities to the result, as the specification's functions. -/
module

public import proofs.«01_k».proof.Proof.KernelValue

@[expose] public section

noncomputable section

namespace Cert.KernelIdeal.Steps

open Idealize.ShloMosaic Idealize.SL.Sem Cert.KernelIdeal Cert.KernelIdeal.Gen Cert.Select Cert.Scalars Finset

/-- A square array that is a function of nodes, zero at the padding. -/
def Extends (a : FVec Ideal S128x128 .f32) (g : Fin 100 → Fin 100 → EReal) : Prop :=
  (∀ i j, a (ix2 (pad i) (pad j)) = g i j) ∧ ∀ i j : Fin 128, 100 ≤ i.val ∨ 100 ≤ j.val → a (ix2 i j) = 0

/-- The features by their three coordinates. -/
def feat (x : FVec Ideal S32x128x100 .f32) (b : Fin 32) (s : Fin 128) (n : Fin 100) : EReal := x (ix3 b s n)

theorem padded_node (x : FVec Ideal S32x128x100 .f32) (b : Fin 32) (s : Fin 128) (n : Fin 100) :
    k0_pay5 (F := Ideal) x (ix3 b s (pad n)) = feat x b s n := by
  pointwise [k0_pay5]
  rw [dif_pos (show (pad n).val < 100 from n.isLt)]
  rfl

/-- The padding columns of the features hold zero. -/
theorem padded_out (x : FVec Ideal S32x128x100 .f32) (b : Fin 32) (s i : Fin 128) (h : 100 ≤ i.val) :
    k0_pay5 (F := Ideal) x (ix3 b s i) = 0 := by
  pointwise [k0_pay5]
  rw [dif_neg (by omega)]
  simp

/-- A sum over the flattened samples and features, as a sum over both. -/
theorem sum_flat (f : Fin 32 → Fin 128 → EReal) :
    (∑ k : Fin 4096, f ⟨k.val / 128, by omega⟩ ⟨k.val % 128, by omega⟩) = ∑ b, ∑ s, f b s := by
  rw [← Finset.sum_product' univ univ f, Finset.univ_product_univ]
  rw [← Equiv.sum_comp (finProdFinEquiv (m := 32) (n := 128)).symm (fun p : Fin 32 × Fin 128 => f p.1 p.2)]
  rfl

/-- The kernel's similarity of two nodes. -/
theorem sim_apply (x : FVec Ideal S32x128x100 .f32) (n m : Fin 100) :
    k0_pay7 (F := Ideal) x (ix2 (pad n) (pad m)) = Spec.sim (feat x) n m := by
  pointwise [k0_pay7]
  simp only [padded_node]
  rw [Spec.sim, Ideal.div_coe (by norm_num), bits_inv32]
  congr 1
  exact sum_flat fun b s => Spec.unit (feat x) b s n * Spec.unit (feat x) b s m

/-- The similarities ranked: at the bottom the node itself and the padding. -/
def ranked (x : FVec Ideal S32x128x100 .f32) (i l : Fin 128) : EReal :=
  if i = l ∨ 100 ≤ l.val then ⊥ else k0_pay7 (F := Ideal) x (ix2 i l)

/-- The selection of the bottom at the node itself and the padding. -/
theorem select_ranked (i l : Fin 128) (a : EReal) :
    Scalar.select (IntOp.ori (IntOp.cmpi .eq (BitVec.ofNat 32 i.val) (BitVec.ofNat 32 l.val))
      (IntOp.cmpi .sge (BitVec.ofNat 32 l.val) 100#32)) ⊥ a = if i = l ∨ 100 ≤ l.val then ⊥ else a := by
  have h1 : IntOp.cmpi .eq (BitVec.ofNat 32 i.val) (BitVec.ofNat 32 l.val) = BitVec.ofBool (decide (i = l)) := by
    show BitVec.ofBool (BitVec.ofNat 32 i.val == BitVec.ofNat 32 l.val) = _
    congr 1
    by_cases h : i = l
    · subst h; simp
    · rw [decide_eq_false h, beq_eq_false_iff_ne]
      intro hh
      have := congrArg BitVec.toInt hh
      rw [toInt_fin _ (le_refl 128), toInt_fin _ (le_refl 128)] at this
      exact h (Fin.ext (by omega))
  have h2 : IntOp.cmpi .sge (BitVec.ofNat 32 l.val) 100#32 = BitVec.ofBool (decide (100 ≤ l.val)) := by
    show BitVec.ofBool (decide ((100#32 : BitVec 32).toInt ≤ (BitVec.ofNat 32 l.val).toInt)) = _
    rw [toInt_fin _ (le_refl 128), toInt_100]
    congr 2
    exact propext ⟨fun h => by omega, fun h => by omega⟩
  rw [h1, h2]
  by_cases h : i = l <;> by_cases h' : 100 ≤ l.val <;> simp [h, h', IntOp.ori, Scalar.select]

/-- The keys are the ranks. -/
theorem keys_apply (x : FVec Ideal S32x128x100 .f32) (i j : Fin 128) :
    (keys (F := Ideal) x (ix2 i j)).toInt = rank (ranked x i) j := by
  have h : keys (F := Ideal) x (ix2 i j) = FloatOps.fptosi (F := Ideal) (φ := .f32) 32 (rank (ranked x i) j : EReal) := by
    unfold keys rank
    pointwise [k0_pay12]
    congr 1
    rw [← sum_count]
    refine sum_congr rfl fun l _ => ?_
    pointwise [k0_pay11, k0_pay8]
    rw [bits_bot, select_ranked, select_ranked]
    rfl
  have hr : rank (ranked x i) j ≤ 128 := le_trans (card_le_univ _) (by simp)
  rw [h, fptosi_natCast _ (by omega), toInt_small _ (by omega)]

variable (x : FVec Ideal S32x128x100 .f32) (hx : ∀ b s n, IsReal (feat x b s n))

include hx in
/-- The kernel's mask marks the chosen neighbours. -/
theorem maskOf_extends : Extends (maskOf (F := Ideal) x) (Spec.mask (Spec.sim (feat x))) := by
  have key : ∀ i j : Fin 128, maskOf (F := Ideal) x (ix2 i j)
      = if i.val < 100 ∧ (univ.filter fun l => Before (ranked x i) l j).card < 30 then 1 else 0 := by
    intro i j
    unfold maskOf
    rw [mask_apply]
    simp only [keys_apply, before_rank]
  have row : ∀ (n : Fin 100) (j : Fin 128), (univ.filter fun l => Before (ranked x (pad n)) l j).card < 30
      ↔ ∃ j' : Fin 100, j = pad j' ∧ Chosen (Spec.sim (feat x) n) n j' := by
    intro n j
    refine chosen_pad (Spec.sim (feat x) n) n (fun i => ?_) (ranked x (pad n)) (fun i hi => ?_) ?_ (fun i hi => ?_) j
    · obtain ⟨r, hr⟩ := Spec.isReal_sim (feat x) hx n i
      rw [hr]
      exact EReal.bot_lt_coe r
    · unfold ranked
      rw [if_neg, sim_apply]
      rintro (h | h)
      · exact hi (pad_inj h.symm)
      · exact absurd i.isLt (not_lt.mpr h)
    · exact if_pos (Or.inl rfl)
    · exact if_pos (Or.inr hi)
  refine ⟨fun n j => ?_, fun i j h => ?_⟩
  · rw [key, Spec.mask]
    refine if_congr ?_ rfl rfl
    rw [row]
    constructor
    · rintro ⟨-, j', hj, hc⟩
      rwa [show j = j' from pad_inj hj]
    · exact fun hc => ⟨n.isLt, j, rfl, hc⟩
  · rw [key, if_neg]
    rintro ⟨hi, hc⟩
    obtain ⟨j', hj, -⟩ := (row ⟨i.val, hi⟩ j).mp hc
    have : j.val < 100 := by rw [hj]; exact j'.isLt
    omega

/-- The identity matrix. -/
theorem eye_apply (i j : Fin 128) : k0_pay9 (F := Ideal) (ix2 i j) = if i = j then 1 else 0 := by
  pointwise [k0_pay9, k0_pay8]
  rw [select_eq, toInt_fin _ (le_refl 128), toInt_fin _ (le_refl 128)]
  exact if_congr ⟨fun h => Fin.ext (by omega), fun h => by rw [h]⟩ rfl rfl

/-- An entry of the adjacency: the mask plus its transpose, kept between 0 and 1. -/
theorem adj_apply (mk : FVec Ideal S128x128 .f32) (i j : Fin 128) :
    adj mk (ix2 i j) = min 1 (max 0 (mk (ix2 i j) + mk (ix2 j i))) := by
  pointwise [adj]
  simp only [eye_apply]
  simp

variable {x} {mk : FVec Ideal S128x128 .f32} {v : Fin 100 → Fin 100 → EReal}

/-- The adjacency is the specification's, zero at the padding. -/
theorem adj_extends (h : Extends mk (Spec.mask v)) : Extends (adj mk) (Spec.adj v) := by
  refine ⟨fun i j => ?_, fun i j hij => ?_⟩
  · rw [adj_apply, h.1, h.1, Spec.adj]
  · rw [adj_apply, h.2 i j hij, h.2 j i hij.symm]
    simp

/-- So is the adjacency with each node joined to itself. -/
theorem nbr_extends (h : Extends mk (Spec.mask v)) : Extends (nbr mk) (Spec.nbr v) := by
  have key : ∀ i j : Fin 128, nbr mk (ix2 i j) = adj mk (ix2 i j) + if j.val < 100 then (if i.val < 100 then (if i = j then 1 else 0) else 0) else 0 := by
    intro i j
    pointwise [nbr, rowValid, rowIx, colIx, oneZero]
    simp only [select_slt, toInt_fin _ (le_refl 128), toInt_100, eye_apply]
    norm_cast
  refine ⟨fun i j => ?_, fun i j hij => ?_⟩
  · rw [key, (adj_extends h).1, if_pos (show (pad j).val < 100 from j.isLt), if_pos (show (pad i).val < 100 from i.isLt), Spec.nbr]
    congr 1
    exact if_congr ⟨fun h => pad_inj h, fun h => by rw [h]⟩ rfl rfl
  · rw [key, (adj_extends h).2 i j hij, zero_add]
    rcases hij with hij | hij
    · rw [if_neg (not_lt.mpr hij), ite_self]
    · rw [if_neg (not_lt.mpr hij)]

/-- So are the counts of common neighbours. -/
theorem common_extends (h : Extends mk (Spec.mask v)) : Extends (common mk) (Spec.common v) := by
  have key : ∀ i j : Fin 128, common mk (ix2 i j) = ∑ k, nbr mk (ix2 i k) * nbr mk (ix2 j k) := by
    intro i j
    pointwise [common]
  have hn := nbr_extends h
  refine ⟨fun i j => ?_, fun i j hij => ?_⟩
  · rw [key, sum_pad _ fun k hk => by rw [hn.2 _ k (Or.inr hk), zero_mul], Spec.common]
    exact sum_congr rfl fun k _ => by rw [hn.1, hn.1]
  · rw [key]
    refine sum_eq_zero fun k _ => ?_
    rcases hij with hij | hij
    · rw [hn.2 i k (Or.inl hij), zero_mul]
    · rw [hn.2 j k (Or.inl hij), mul_zero]

/-- The largest count over the padded array is the largest over the nodes. -/
theorem maxCommon_eq (h : Extends mk (Spec.mask v)) : maxCommon mk = Spec.top v := by
  have hc := common_extends h
  rw [Spec.top, ← fold_max_pad (fun i j => common mk (ix2 i j)) (Spec.common v) hc.1 (Spec.common_nonneg v) hc.2]
  pointwise [maxCommon]
  rw [bits_bot]

/-- The divisor of the structural term is the specification's. -/
theorem denom_eq (h : Extends mk (Spec.mask v)) : denom mk = Spec.denom v := by
  unfold denom
  pointwise
  rw [maxCommon_eq h, Spec.denom]

/-- The structural term at two nodes is the specification's. -/
theorem structural_apply (h : Extends mk (Spec.mask v)) (i j : Fin 100) :
    structural mk (ix2 (pad i) (pad j)) = Spec.structural v i j := by
  pointwise [structural, oneZero]
  rw [(adj_extends h).1, (common_extends h).1, denom_eq h, Spec.structural]

/-- The edge weights before normalisation are the specification's, zero at the padding. -/
theorem fused_extends (h : Extends mk (Spec.mask v)) (si : FVec Ideal S128x128 .f32)
    (hs : ∀ i j, si (ix2 (pad i) (pad j)) = v i j) : Extends (fused si mk) (Spec.fused v) := by
  have key : ∀ i j : Fin 128, fused si mk (ix2 i j) = (si (ix2 i j) + structural mk (ix2 i j)) * mk (ix2 i j) := by
    intro i j
    pointwise [fused]
  refine ⟨fun i j => ?_, fun i j hij => ?_⟩
  · rw [key, hs, structural_apply h, h.1, Spec.fused]
  · rw [key, h.2 i j hij, mul_zero]

/-- The inverse root of a node's degree is the specification's. -/
theorem dinv_apply {fu : FVec Ideal S128x128 .f32} (h : Extends fu (Spec.fused v)) (j : Fin 100) :
    dinv fu (ix2 0 (pad j)) = Spec.dinv v j := by
  pointwise [dinv, degPow]
  rw [sum_pad _ fun i hi => h.2 i _ (Or.inl hi), bits_top]
  simp only [h.1]
  rfl

/-- A row multiplied into the identity is that row as a column. -/
theorem column_apply (r : FVec Ideal S1x128 .f32) (i : Fin 128) : column r (ix2 i 0) = r (ix2 0 i) := by
  pointwise [column]
  simp only [eye_apply]
  simp

/-- The normalised weights are the specification's, zero at the padding. -/
theorem weights_extends {fu : FVec Ideal S128x128 .f32} (h : Extends fu (Spec.fused v)) : Extends (weights fu) (Spec.weight v) := by
  have key : ∀ i j : Fin 128, weights fu (ix2 i j) = dinv fu (ix2 0 i) * fu (ix2 i j) * dinv fu (ix2 0 j) := by
    intro i j
    rw [← column_apply (dinv fu) i]
    pointwise [weights]
  refine ⟨fun i j => ?_, fun i j hij => ?_⟩
  · rw [key, dinv_apply h, dinv_apply h, h.1, Spec.weight]
  · rw [key, h.2 i j hij, mul_zero, zero_mul]

/-- Of real features, the kernel's weights are the specification's of the mean similarities. -/
theorem weightsOf_extends (x : FVec Ideal S32x128x100 .f32) (hx : ∀ b s n, IsReal (feat x b s n)) :
    Extends (weightsOf (F := Ideal) x) (Spec.weight (Spec.sim (feat x))) :=
  weights_extends (fused_extends (maskOf_extends x hx) _ (sim_apply x))

/-- The kernel's result at an element, for real features. -/
theorem block_apply (x : FVec Ideal S32x128x100 .f32) (hx : ∀ b s n, IsReal (feat x b s n)) (w : FVec Ideal S128x128 .f32)
    (bias : FVec Ideal S1x128 .f32) (b : Fin 32) (t : Fin 128) (j : Fin 100) :
    block (F := Ideal) x w bias b (ix3 0 t j)
      = Spec.out (Spec.sim (feat x)) (feat x) (fun s t => w (ix2 s t)) (fun t => bias (ix2 0 t)) b t j := by
  have hw := weightsOf_extends x hx
  unfold block
  have h1 : ∀ s, propagated (F := Ideal) x (weightsOf x) (ix3 b s (pad j))
      = ∑ m, feat x b s m * Spec.weight (Spec.sim (feat x)) m j := by
    intro s
    pointwise [propagated, k0_pay6]
    rw [sum_pad _ fun i hi => by rw [hw.2 i _ (Or.inl hi), mul_zero]]
    simp only [padded_node, hw.1]
  have h2 : sample (F := Ideal) w (propagated x (weightsOf x)) (column (k0_pay4 bias)) b (ix3 0 t j)
      = ∑ s, w (ix2 s t) * propagated (F := Ideal) x (weightsOf x) (ix3 b s (pad j)) + column (k0_pay4 bias) (ix2 t 0) := by
    pointwise [sample]
    rfl
  rw [h2, column_apply]
  simp only [h1]
  rw [Spec.out]
  congr 1
  pointwise [k0_pay4]

end Cert.KernelIdeal.Steps
-- ==== Proof.KernelRun.lean ====
/- What the kernel's run leaves in the result array, read at an index: the sample's block of the argument arrays. -/
module

public import proofs.«01_k».proof.Proof.KernelSteps
public import proofs.«01_k».proof.Proof.Gen.KernelIdeal.Frame
public import Idealize.ShloMosaic.Adequacy
public import Idealize.ShloMosaic.Init
public import Idealize.ShloMosaic.Lib.Pipeline.Value
public import Idealize.ShloMosaic.Lib.Pointwise

@[expose] public section

noncomputable section

namespace Cert.KernelIdeal.Steps

open Idealize.ShloMosaic Idealize.SL.Sem Cert.KernelIdeal Cert.KernelIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The result of the kernel at an index: the entry of the sample's block. -/
def result (x : FVec F S32x128x100 .f32) (w : FVec F S128x128 .f32) (bias : FVec F S1x128 .f32) : FVec F S32x128x100 .f32 :=
  fun y => block x w bias (y 0) (ix3 0 (y 1) (y 2))

/-- A buffer after the thirty-two block stores, read at an index: the block's entry. -/
theorem read_blocks (v : View sig .tc .vmem S32x128x100 .f32) (f : v.ty.Contents (Elt F))
    (P : Fin 32 → S1x128x100.Idx → Elt F .f32) (b : Fin 32) (t : Fin 128) (n : Fin 100) :
    v.read (Elt F) (v.writes (Elt F) f (View.tilePieces (s := S32x128x100) (e := .f32) (Val := Elt F) S1x128x100.size off inb P
      32 (le_refl 32))) (ix3 b t n) = P b (ix3 0 t n) := by
  refine View.read_tilePieces v f S1x128x100.size off inb P 32 (le_refl 32) (ix3 b t n) b b.isLt (ix3 0 t n) ?_ (0 : Fin 3) ?_
  · intro a
    match a with
    | ⟨0, _⟩ => show b.val = b.val + 0; omega
    | ⟨1, _⟩ => show t.val = 0 + t.val; omega
    | ⟨2, _⟩ => show n.val = 0 + n.val; omega
  · intro i hi
    have h : i.val ≠ b.val := fun h => hi (Fin.ext h)
    show b.val < i.val ∨ i.val + 1 ≤ b.val
    omega

/-- The result buffer after the body holds the blocks. -/
theorem out_eq (c : Dev nD) (arg0 : Memref sig .tc .vmem S32x128x100 .f32) (harg0 : arg0.IsWhole)
    (arg1 : Memref sig .tc .vmem S128x128 .f32) (harg1 : arg1.IsWhole) (arg2 : Memref sig .tc .vmem S1x128 .f32)
    (harg2 : arg2.IsWhole) (arg3 : Memref sig .tc .vmem S32x128x100 .f32) (harg3 : arg3.IsWhole)
    (arg4 : Memref sig .tc .vmem S8x128 .f32) (harg4 : arg4.IsWhole)
    (x0 : Vec F S32x128x100 .f32) (x1 : Vec F S128x128 .f32) (x2 : Vec F S1x128 .f32) :
    out0_A_3 c arg0 harg0 arg1 harg1 arg2 harg2 arg3 harg3 arg4 harg4 x0 x1 x2 = result x0 x1 x2 := by
  unfold out0_A_3
  rw [pieces_eq, load0_eq, load1_eq, load2_eq]
  funext y
  rw [show y = ix3 (y 0) (y 1) (y 2) from eq_ix3 y]
  exact read_blocks _ _ (block x0 x1 x2) _ _ _

/-- The one grid point. -/
def t₀ : Fin cfg0.N := ⟨0, by decide⟩

/-- The result array after the run, read through its one block: what the body left at the one point, cut. -/
theorem final_out (c : Dev nD) :
    ((cfg0.win (3 : Fin 4)).blk t₀).view.read (Elt F) ((dats (F := F) m 0 c).arrAt (3 : Fin 4) cfg0.N)
      = (dats (F := F) m 0 c).flushed (3 : Fin 4) t₀ := by
  rw [show cfg0.N = (t₀ : Fin cfg0.N).val + 1 from rfl, (dats (F := F) m 0 c).arrAt_succ (3 : Fin 4) t₀]
  rw [show (cfg0.win (3 : Fin 4)).flush t₀ = true from by decide, if_pos rfl]
  exact View.read_write_univ _ _

/-- The bias the region finds is the argument as one row. -/
theorem V_bias (c : Dev nD) :
    V m c main_v0 = shapeCast S1x128 (m ((c : Thread nD τ).loc main_arg3)) shapeCasts_S128_S1x128 := by
  rfl

/-- The result array after the run. -/
theorem final_value (c : Dev nD) :
    (dats (F := F) m 0 c).arrAt (3 : Fin 4) cfg0.N = result (m ((c : Thread nD τ).loc main_arg0))
      (m ((c : Thread nD τ).loc main_arg2)) (shapeCast S1x128 (m ((c : Thread nD τ).loc main_arg3)) shapeCasts_S128_S1x128) := by
  have ho := final_out (F := F) m c
  have hz3 : (fun a => (win0_3.index t₀) a * main_v1.ty.shape.size a) = fun _ => 0 := funext fun a => by fin_cases a <;> decide
  have hr3 := fun f => Memref.read_access_unit_zero (Elt F) main_v1 hz3 (fun a => by fin_cases a <;> decide) f
  have hz0 : (fun a => (win0_0.index t₀) a * main_arg0.ty.shape.size a) = fun _ => 0 := funext fun a => by fin_cases a <;> decide
  have hr0 := fun f => Memref.read_access_unit_zero (Elt F) main_arg0 hz0 (fun a => by fin_cases a <;> decide) f
  have hz1 : (fun a => (win0_1.index t₀) a * main_arg2.ty.shape.size a) = fun _ => 0 := funext fun a => by fin_cases a <;> decide
  have hr1 := fun f => Memref.read_access_unit_zero (Elt F) main_arg2 hz1 (fun a => by fin_cases a <;> decide) f
  have hz2 : (fun a => (win0_2.index t₀) a * main_v0.ty.shape.size a) = fun _ => 0 := funext fun a => by fin_cases a <;> decide
  have hr2 := fun f => Memref.read_access_unit_zero (Elt F) main_v0 hz2 (fun a => by fin_cases a <;> decide) f
  rw [hr3] at ho
  rw [ho]
  show (cfg0.win (3 : Fin 4)).cut _ ((dats (F := F) m 0 c).after 3 t₀) = _
  rw [after0_3]
  unfold outsAt0
  rw [out_eq]
  unfold iblk
  rw [hr0, hr1, hr2]
  show result (V m c main_arg0) (V m c main_arg2) (V m c main_v0) = _
  rw [V_bias, V_main_arg0, V_main_arg2]

/-- Every run of the kernel ends with the result array at `result` of the arguments, the arguments unchanged. -/
theorem run : θ_run defs (onTc (τ := τ) (main (F := F))) ⟨m, fun _ => 0, ρ⟩ (fun r => ∀ c : Dev nD,
      r.2.mem ((c.tc : Thread nD τ).loc main_v1) = result (m ((c : Thread nD τ).loc main_arg0))
        (m ((c : Thread nD τ).loc main_arg2)) (shapeCast S1x128 (m ((c : Thread nD τ).loc main_arg3)) shapeCasts_S128_S1x128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (run_main m ρ) (unchanged m ρ))
  exact ((h.1 c).1 3).trans (final_value m c)

end Cert.KernelIdeal.Steps

end
-- ==== Proof.RefIndex.lean ====
module
public import proofs.«01_k».proof.Proof.Spec
public import proofs.«01_k».proof.Proof.Gen.ReferenceIdeal.Run
public import Idealize.ShloMosaic.Lib.Pointwise
public import Idealize.ShloMosaic.Lib.Routing.OpsPair
@[expose] public section
noncomputable section
namespace Cert.ReferenceIdeal.Graph
open Idealize.ShloMosaic Idealize.SL.Sem Cert.ReferenceIdeal Cert.ReferenceIdeal.Gen Cert.ReferenceIdeal.Value
open Cert.Scalars

/-! The reference reads and writes matrices through columns of node numbers. Here each such read and write is stated
in terms of the nodes themselves, for columns that hold the nodes `p e`, `q e`. -/

/-- Node numbers read from the end when they are negative. -/
def wrapped (v : IVec S9900 32) : IVec S9900 32 :=
  select (cmpi .slt v (broadcastInDim S9900 ![] bcast_S_S9900 (constantI S_ 32 0#32)))
    (addi v (broadcastInDim S9900 ![] bcast_S_S9900 (constantI S_ 32 100#32))) v

/-- One column of node numbers. -/
def column (v : IVec S9900 32) : IVec S9900x1 32 := broadcastInDim S9900x1 ![0] bcast_S9900_S9900x1_0 v

/-- Two columns of node numbers side by side. -/
def pairs (u v : IVec S9900 32) : IVec S9900x2 32 :=
  concatenate S9900x2 1 [⟨S9900x1, column u⟩, ⟨S9900x1, column v⟩] concatenates_S9900x1_S9900x1_S9900x2_d1

/-- The same for the list of the neighbours' rows. -/
def wrapped' (v : IVec S3100 32) : IVec S3100 32 :=
  select (cmpi .slt v (broadcastInDim S3100 ![] bcast_S_S3100 (constantI S_ 32 0#32)))
    (addi v (broadcastInDim S3100 ![] bcast_S_S3100 (constantI S_ 32 100#32))) v

/-- Two lists as one list of pairs, for the chosen neighbours. -/
def pairs' (u v : IVec S3100 32) : IVec S3100x2 32 :=
  concatenate S3100x2 1 [⟨S3100x1, broadcastInDim S3100x1 ![0] bcast_S3100_S3100x1_0 u⟩,
    ⟨S3100x1, broadcastInDim S3100x1 ![0] bcast_S3100_S3100x1_0 v⟩] concatenates_S3100x1_S3100x1_S3100x2_d1

/-- A node as a signed word is its number. -/
theorem toInt_node (p : Fin 100) : (BitVec.ofNat 32 p.val).toInt = (p.val : ℤ) := toInt_small _ (by omega)

/-- A node is not negative, so wrapping leaves it (edge list). -/
theorem wrapped_apply (v : IVec S9900 32) (e : Fin 9900) (p : Fin 100) (h : v (ix1 e) = BitVec.ofNat 32 p.val) :
    wrapped v (ix1 e) = BitVec.ofNat 32 p.val := by
  pointwise [wrapped]
  rw [select_slt, h, toInt_node, if_neg]
  simp

/-- A node is not negative, so wrapping leaves it (chosen neighbours). -/
theorem wrapped'_apply (v : IVec S3100 32) (e : Fin 3100) (p : Fin 100) (h : v (ix1 e) = BitVec.ofNat 32 p.val) :
    wrapped' v (ix1 e) = BitVec.ofNat 32 p.val := by
  pointwise [wrapped']
  rw [select_slt, h, toInt_node, if_neg]
  simp

/-- A list as a column. -/
theorem column_apply (v : IVec S9900 32) (e : Fin 9900) (z : Fin 1) : column v (ix2 e z) = v (ix1 e) := by
  pointwise [column]

/-- The first of a pair of the edge list. -/
theorem pairs_left (u v : IVec S9900 32) (e : Fin 9900) : pairs u v (ix2 e 0) = u (ix1 e) := by
  pointwise [pairs, column]

/-- The second of a pair of the edge list. -/
theorem pairs_right (u v : IVec S9900 32) (e : Fin 9900) : pairs u v (ix2 e 1) = v (ix1 e) := by
  pointwise [pairs, column]

/-- The first of a pair of the chosen neighbours. -/
theorem pairs'_left (u v : IVec S3100 32) (e : Fin 3100) : pairs' u v (ix2 e 0) = u (ix1 e) := by
  pointwise [pairs']

/-- The second of a pair of the chosen neighbours. -/
theorem pairs'_right (u v : IVec S3100 32) (e : Fin 3100) : pairs' u v (ix2 e 1) = v (ix1 e) := by
  pointwise [pairs']

/-- A node number read signed and clamped to the table's 100 rows is the node. -/
theorem clamp_node (p : Fin 100) (w : BitVec 32) (h : w = BitVec.ofNat 32 p.val) :
    (min w.toInt.toNat (100 - 1)) = p.val := by
  rw [h, toInt_node]; have := p.isLt; omega

/-- The place in the two columns where the `c`-th coordinate of pair `e` stands. -/
theorem pairs_place (e : Fin 9900) (c : Fin 2) :
    GatherDims.siIdx gather_S100x100_S9900x2_S9900_n_01_n_n_01_1_11 (ix1 e) c = ix2 e c := by
  funext a
  match a with
  | ⟨0, _⟩ => rfl
  | ⟨1, _⟩ => rfl

/-- Reading a square matrix at pairs of nodes. -/
theorem gather_pairs {α : Type} (x : S100x100.Idx → α) (idx : IVec S9900x2 32) (e : Fin 9900) (p q : Fin 100)
    (hp : idx (ix2 e 0) = BitVec.ofNat 32 p.val) (hq : idx (ix2 e 1) = BitVec.ofNat 32 q.val) :
    Host.gather gather_S100x100_S9900x2_S9900_n_01_n_n_01_1_11 x idx (ix1 e) = x (ix2 p q) := by
  have h0 := pairs_place e 0
  have h1 := pairs_place e 1
  refine congrArg x (funext fun a => Fin.ext ?_)
  match a with
  | ⟨0, _⟩ =>
    show min (idx (GatherDims.siIdx _ _ _)).toInt.toNat (100 - 1) + 0 + 0 = p.val
    exact clamp_node p _ ((congrArg idx h0).trans hp)
  | ⟨1, _⟩ =>
    show min (idx (GatherDims.siIdx _ _ _)).toInt.toNat (100 - 1) + 0 + 0 = q.val
    exact clamp_node q _ ((congrArg idx h1).trans hq)

/-- Where the gather of a node's value reads its start. -/
theorem column_place (e : Fin 9900) (c : Fin 1) :
    GatherDims.siIdx gather_S100_S9900x1_S9900_n_0_n_n_0_1_1 (ix1 e) c = ix2 e c := by
  funext a
  match a with
  | ⟨0, _⟩ => rfl
  | ⟨1, _⟩ => rfl

/-- Reading a vector at nodes. -/
theorem gather_nodes {α : Type} (x : S100.Idx → α) (idx : IVec S9900x1 32) (e : Fin 9900) (p : Fin 100)
    (hp : idx (ix2 e 0) = BitVec.ofNat 32 p.val) :
    Host.gather gather_S100_S9900x1_S9900_n_0_n_n_0_1_1 x idx (ix1 e) = x (ix1 p) := by
  have h0 := column_place e 0
  refine congrArg x (funext fun a => Fin.ext ?_)
  match a with
  | ⟨0, _⟩ =>
    show min (idx (GatherDims.siIdx _ _ _)).toInt.toNat (100 - 1) + 0 + 0 = p.val
    exact clamp_node p _ ((congrArg idx h0).trans hp)

/-- Where the gather of a node's features reads its start. -/
theorem slab_place (e : Fin 9900) (b : Fin 32) (t : Fin 128) (c : Fin 1) :
    GatherDims.siIdx gather_S100x32x128_S9900x1_S9900x32x128_12_0_n_n_0_1_132128 (ix3 e b t) c = ix2 e c := by
  funext a
  match a with
  | ⟨0, _⟩ => rfl
  | ⟨1, _⟩ => rfl

/-- Reading the features of nodes. -/
theorem gather_slabs {α : Type} (x : S100x32x128.Idx → α) (idx : IVec S9900x1 32) (e : Fin 9900) (b : Fin 32)
    (t : Fin 128) (p : Fin 100) (hp : idx (ix2 e 0) = BitVec.ofNat 32 p.val) :
    Host.gather gather_S100x32x128_S9900x1_S9900x32x128_12_0_n_n_0_1_132128 x idx (ix3 e b t) = x (ix3 p b t) := by
  have h0 := slab_place e b t 0
  refine congrArg x (funext fun a => Fin.ext ?_)
  match a with
  | ⟨0, _⟩ =>
    show min (idx (GatherDims.siIdx _ _ _)).toInt.toNat (100 - 1) + 0 + 0 = p.val
    exact clamp_node p _ ((congrArg idx h0).trans hp)
  | ⟨1, _⟩ => show 0 + 0 + b.val = b.val; omega
  | ⟨2, _⟩ => show 0 + 0 + t.val = t.val; omega

/-- Where the scatter over the edge list reads its start. -/
theorem sctPairs_place (e : Fin 9900) (c : Fin 2) :
    ScatterDims.siIdx scatter_S100x100_S9900x2_S9900_n_01_01_1 (ix1 e) c = ix2 e c := by
  funext a
  match a with
  | ⟨0, _⟩ => rfl
  | ⟨1, _⟩ => rfl

/-- The row that scatter starts at. -/
theorem sctPairs_start0 (idx : IVec S9900x2 32) (e : Fin 9900) :
    scatter_S100x100_S9900x2_S9900_n_01_01_1.start (ix1 e) idx 0 = (idx (ix2 e 0)).toInt :=
  congrArg BitVec.toInt (congrArg idx (sctPairs_place e 0))

/-- The column that scatter starts at. -/
theorem sctPairs_start1 (idx : IVec S9900x2 32) (e : Fin 9900) :
    scatter_S100x100_S9900x2_S9900_n_01_01_1.start (ix1 e) idx 1 = (idx (ix2 e 1)).toInt :=
  congrArg BitVec.toInt (congrArg idx (sctPairs_place e 1))

/-- Where an update of a square matrix by pairs of nodes lands. -/
theorem lands_pairs (idx : IVec S9900x2 32) (e : Fin 9900) (p q : Fin 100)
    (hp : idx (ix2 e 0) = BitVec.ofNat 32 p.val) (hq : idx (ix2 e 1) = BitVec.ofNat 32 q.val) (r c : Fin 100) :
    scatter_S100x100_S9900x2_S9900_n_01_01_1.resultIdx? (ix1 e) idx = some (ix2 r c) ↔ p = r ∧ q = c := by
  refine (Routing.resultIdx?_ix2 scatter_S100x100_S9900x2_S9900_n_01_01_1 (ix1 e) idx r c).trans ?_
  rw [sctPairs_start0, sctPairs_start1, hp, hq, toInt_node, toInt_node, Fin.ext_iff, Fin.ext_iff]
  show (p.val : ℤ) + ((0 : ℕ) : ℤ) = _ ∧ (q.val : ℤ) + ((0 : ℕ) : ℤ) = _ ↔ _
  omega

/-- Where the scatter over the chosen neighbours reads its start. -/
theorem sctPairs'_place (e : Fin 3100) (c : Fin 2) :
    ScatterDims.siIdx scatter_S100x100_S3100x2_S3100_n_01_01_1 (ix1 e) c = ix2 e c := by
  funext a
  match a with
  | ⟨0, _⟩ => rfl
  | ⟨1, _⟩ => rfl

/-- The row that scatter starts at. -/
theorem sctPairs'_start0 (idx : IVec S3100x2 32) (e : Fin 3100) :
    scatter_S100x100_S3100x2_S3100_n_01_01_1.start (ix1 e) idx 0 = (idx (ix2 e 0)).toInt :=
  congrArg BitVec.toInt (congrArg idx (sctPairs'_place e 0))

/-- The column that scatter starts at. -/
theorem sctPairs'_start1 (idx : IVec S3100x2 32) (e : Fin 3100) :
    scatter_S100x100_S3100x2_S3100_n_01_01_1.start (ix1 e) idx 1 = (idx (ix2 e 1)).toInt :=
  congrArg BitVec.toInt (congrArg idx (sctPairs'_place e 1))

/-- An update of the chosen neighbours lands at its pair. -/
theorem lands_pairs' (idx : IVec S3100x2 32) (e : Fin 3100) (p q : Fin 100)
    (hp : idx (ix2 e 0) = BitVec.ofNat 32 p.val) (hq : idx (ix2 e 1) = BitVec.ofNat 32 q.val) (r c : Fin 100) :
    scatter_S100x100_S3100x2_S3100_n_01_01_1.resultIdx? (ix1 e) idx = some (ix2 r c) ↔ p = r ∧ q = c := by
  refine (Routing.resultIdx?_ix2 scatter_S100x100_S3100x2_S3100_n_01_01_1 (ix1 e) idx r c).trans ?_
  rw [sctPairs'_start0, sctPairs'_start1, hp, hq, toInt_node, toInt_node, Fin.ext_iff, Fin.ext_iff]
  show (p.val : ℤ) + ((0 : ℕ) : ℤ) = _ ∧ (q.val : ℤ) + ((0 : ℕ) : ℤ) = _ ↔ _
  omega

/-- Where the scatter of the degrees reads its start. -/
theorem sctColumn_place (e : Fin 9900) (c : Fin 1) :
    ScatterDims.siIdx scatter_S100_S9900x1_S9900_n_0_0_1 (ix1 e) c = ix2 e c := by
  funext a
  match a with
  | ⟨0, _⟩ => rfl
  | ⟨1, _⟩ => rfl

/-- The node that scatter starts at. -/
theorem sctColumn_start0 (idx : IVec S9900x1 32) (e : Fin 9900) :
    scatter_S100_S9900x1_S9900_n_0_0_1.start (ix1 e) idx 0 = (idx (ix2 e 0)).toInt :=
  congrArg BitVec.toInt (congrArg idx (sctColumn_place e 0))

/-- Where an update of a vector by nodes lands. -/
theorem lands_nodes (idx : IVec S9900x1 32) (e : Fin 9900) (p : Fin 100)
    (hp : idx (ix2 e 0) = BitVec.ofNat 32 p.val) (r : Fin 100) :
    scatter_S100_S9900x1_S9900_n_0_0_1.resultIdx? (ix1 e) idx = some (ix1 r) ↔ p = r := by
  refine (Routing.resultIdx?_ix1 scatter_S100_S9900x1_S9900_n_0_0_1 (ix1 e) idx r).trans ?_
  rw [sctColumn_start0, hp, toInt_node, Fin.ext_iff]
  show (p.val : ℤ) + ((0 : ℕ) : ℤ) = _ ↔ _
  omega

/-- Where the scatter of the messages reads its start. -/
theorem sctSlab_place (e : Fin 9900) (b : Fin 32) (t : Fin 128) (c : Fin 1) :
    ScatterDims.siIdx scatter_S100x32x128_S9900x1_S9900x32x128_12_0_0_1 (ix3 e b t) c = ix2 e c := by
  funext a
  match a with
  | ⟨0, _⟩ => rfl
  | ⟨1, _⟩ => rfl

/-- The node that scatter starts at. -/
theorem sctSlab_start0 (idx : IVec S9900x1 32) (e : Fin 9900) (b : Fin 32) (t : Fin 128) :
    scatter_S100x32x128_S9900x1_S9900x32x128_12_0_0_1.start (ix3 e b t) idx 0 = (idx (ix2 e 0)).toInt :=
  congrArg BitVec.toInt (congrArg idx (sctSlab_place e b t 0))

/-- Where an update of the nodes' features lands. -/
theorem lands_slabs (idx : IVec S9900x1 32) (e : Fin 9900) (b : Fin 32) (t : Fin 128) (p : Fin 100)
    (hp : idx (ix2 e 0) = BitVec.ofNat 32 p.val) (r : Fin 100) (b' : Fin 32) (t' : Fin 128) :
    scatter_S100x32x128_S9900x1_S9900x32x128_12_0_0_1.resultIdx? (ix3 e b t) idx = some (ix3 r b' t')
      ↔ p = r ∧ b = b' ∧ t = t' := by
  have e0 : scatter_S100x32x128_S9900x1_S9900x32x128_12_0_0_1.start (ix3 e b t) idx 0 = (p.val : ℤ) := by
    rw [sctSlab_start0, hp, toInt_node]
  refine (Routing.resultIdx?_eq_some scatter_S100x32x128_S9900x1_S9900x32x128_12_0_0_1 (ix3 e b t) idx (ix3 r b' t')).trans ?_
  simp only [Fin.ext_iff]
  constructor
  · intro h
    have a0 : scatter_S100x32x128_S9900x1_S9900x32x128_12_0_0_1.start (ix3 e b t) idx 0 + ((0 : ℕ) : ℤ) = (r.val : ℤ) := h 0
    have a1 : (0 : ℤ) + ((b.val : ℕ) : ℤ) = (b'.val : ℤ) := h 1
    have a2 : (0 : ℤ) + ((t.val : ℕ) : ℤ) = (t'.val : ℤ) := h 2
    omega
  · rintro ⟨a0, a1, a2⟩ a
    match a with
    | ⟨0, _⟩ =>
      show scatter_S100x32x128_S9900x1_S9900x32x128_12_0_0_1.start (ix3 e b t) idx 0 + ((0 : ℕ) : ℤ) = (r.val : ℤ)
      omega
    | ⟨1, _⟩ => show (0 : ℤ) + ((b.val : ℕ) : ℤ) = (b'.val : ℤ); omega
    | ⟨2, _⟩ => show (0 : ℤ) + ((t.val : ℕ) : ℤ) = (t'.val : ℤ); omega

/-- Zeros and ones gathered by a running maximum: the result is one exactly when some gathered one is. -/
theorem foldl_max_flags {ι : Type} (l : List ι) (P : ι → Prop) [DecidablePred P] (U : ι → BitVec 32)
    (hU : ∀ n ∈ l, U n = 0#32 ∨ U n = 1#32) (a : BitVec 32) (ha : a = 0#32 ∨ a = 1#32) :
    (l.foldl (fun a n => if P n then IntOp.maxsi a (U n) else a) a = 0#32
      ∨ l.foldl (fun a n => if P n then IntOp.maxsi a (U n) else a) a = 1#32)
    ∧ (l.foldl (fun a n => if P n then IntOp.maxsi a (U n) else a) a = 1#32
      ↔ a = 1#32 ∨ ∃ n ∈ l, P n ∧ U n = 1#32) := by
  induction l generalizing a with
  | nil => exact ⟨ha, by simp⟩
  | cons n l ih =>
    have hn := hU n List.mem_cons_self
    have hstep : ((if P n then IntOp.maxsi a (U n) else a) = 0#32 ∨ (if P n then IntOp.maxsi a (U n) else a) = 1#32)
        ∧ ((if P n then IntOp.maxsi a (U n) else a) = 1#32 ↔ a = 1#32 ∨ (P n ∧ U n = 1#32)) := by
      by_cases hP : P n
      · rw [if_pos hP]
        rcases hn with h | h <;> rcases ha with rfl | rfl <;> rw [h] <;> simp [hP] <;> decide
      · rw [if_neg hP]
        exact ⟨ha, by simp [hP]⟩
    obtain ⟨h1, h2⟩ := ih (fun k hk => hU k (List.mem_cons_of_mem _ hk)) _ hstep.1
    rw [List.foldl_cons]
    refine ⟨h1, h2.trans ?_⟩
    rw [hstep.2, List.exists_mem_cons_iff, or_assoc]

/-- A scatter by maximum of zeros and ones into zeros marks the places some one lands on. -/
theorem scatter_flags {s si u : Shape} (d : ScatterDims s si u) (x0 : s.Idx → BitVec 32) (idx : IVec si 32)
    (upd : u.Idx → BitVec 32) (hupd : ∀ k, upd k = 0#32 ∨ upd k = 1#32) (i : s.Idx) (h0 : x0 i = 0#32) :
    (Host.scatter d IntOp.maxsi x0 idx upd i = 0#32 ∨ Host.scatter d IntOp.maxsi x0 idx upd i = 1#32)
    ∧ (Host.scatter d IntOp.maxsi x0 idx upd i = 1#32 ↔ ∃ k, d.resultIdx? k idx = some i ∧ upd k = 1#32) := by
  rw [Routing.scatter_at, h0]
  obtain ⟨h1, h2⟩ := foldl_max_flags (List.finRange u.numel)
    (fun n => d.resultIdx? (u.rowMajor.symm n) idx = some i) (fun n => upd (u.rowMajor.symm n)) (fun n _ => hupd _) 0#32 (Or.inl rfl)
  refine ⟨h1, h2.trans ⟨?_, ?_⟩⟩
  · rintro (h | ⟨n, _, h⟩)
    · exact absurd h (by decide)
    · exact ⟨_, h⟩
  · rintro ⟨k, h⟩
    refine Or.inr ⟨u.rowMajor k, List.mem_finRange _, ?_⟩
    rw [Equiv.symm_apply_apply]; exact h

end Cert.ReferenceIdeal.Graph
end
-- ==== Proof.RefMask.lean ====
module
public import proofs.«01_k».proof.Proof.RefIndex
public import Idealize.ShloMosaic.Lib.SortFacts
public import Idealize.ShloMosaic.Lib.Routing.Ops
@[expose] public section
noncomputable section
namespace Cert.ReferenceIdeal.Graph
open Idealize.ShloMosaic Idealize.SL.Sem Cert.ReferenceIdeal Cert.ReferenceIdeal.Gen Cert.ReferenceIdeal.Value
open Cert.Scalars Finset
open Cert.Select (Before Chosen)

/-! The reference's neighbour lists: each row's similarities sorted, the row's own node dropped, thirty kept. -/

section Sorting
variable {α : Type} [LinearOrder α] {n : ℕ} (v : Fin n → α)

/-- The comparison the sort is given: the greater value first, positions not looked at. -/
def greater (a b : Fin n) : Bool := decide (v b < v a)

theorem pairwise_insert (a : Fin n) (l : List (Fin n)) (hl : l.Pairwise (Before v)) (ha : ∀ b ∈ l, a < b) :
    (insertBefore (greater v) a l).Pairwise (Before v) := by
  induction l with
  | nil => exact List.pairwise_singleton _ _
  | cons b l ih =>
    rw [List.pairwise_cons] at hl
    unfold insertBefore
    split
    · next h =>
      have h : v a < v b := of_decide_eq_true h
      refine List.pairwise_cons.mpr ⟨fun c hc => ?_, ih hl.2 fun c hc => ha c (List.mem_cons_of_mem _ hc)⟩
      rcases List.mem_cons.mp ((perm_insertBefore (greater v) a l).mem_iff.mp hc) with hca | hc'
      · rw [hca]; exact Or.inl h
      · exact hl.1 c hc'
    · next h =>
      have h : v b ≤ v a := not_lt.mp fun h' => h (decide_eq_true h')
      have before : ∀ c, v c ≤ v a → a < c → Before v a c := fun c hc hac => by
        rcases lt_or_eq_of_le hc with h1 | h1
        · exact Or.inl h1
        · exact Or.inr ⟨h1.symm, hac⟩
      refine List.pairwise_cons.mpr ⟨fun c hc => ?_, List.pairwise_cons.mpr hl⟩
      refine before c ?_ (ha c hc)
      rcases List.mem_cons.mp hc with hcb | hc'
      · rw [hcb]; exact h
      · rcases hl.1 c hc' with h1 | h1
        · exact h1.le.trans h
        · exact h1.1.ge.trans h

/-- The stable sort puts each element before those that follow it. -/
theorem pairwise_sorted (l : List (Fin n)) (hl : l.Pairwise (· < ·)) : (stableSort (greater v) l).Pairwise (Before v) := by
  induction l with
  | nil => exact List.Pairwise.nil
  | cons a l ih =>
    rw [List.pairwise_cons] at hl
    exact pairwise_insert v a _ (ih hl.2) fun b hb => hl.1 b ((perm_stableSort (greater v) l).mem_iff.mp hb)

/-- The stable sort lists the positions in the order `Before`. -/
theorem sorted_before (a b : Fin n) (hab : a < b) : Before v (sortedFrom (greater v) a) (sortedFrom (greater v) b) :=
  List.pairwise_iff_get.mp (pairwise_sorted v (List.finRange n) (List.pairwise_lt_finRange n)) _ _ hab

theorem sorted_bijective : Function.Bijective (sortedFrom (greater v)) :=
  ⟨sortedFrom_injective _, sortedFrom_surjective _⟩

end Sorting

section Windows

/-- A row's running sums over a window of 31, padded below: the sum of the row's entries up to that place. -/
theorem prefixes (x : IVec S100x31 32) (n : Fin 100) (f : ℕ → ℕ)
    (hx : ∀ i : Fin 31, x (ix2 n i) = BitVec.ofNat 32 (f i.val)) (init : IVec S_ 32) (hinit : init ix0 = 0#32)
    (h : S100x31.ReduceWindows (![1, 31] : Fin 2 → Nat) ![1, 1] ![0, 30] ![0, 0] S100x31) (hu : 0 < S_.numel) (j : Fin 31) :
    Host.reduceWindow IntOp.addi ![1, 31] ![1, 1] ![0, 30] ![0, 0] x init h hu (ix2 n j)
      = BitVec.ofNat 32 ((List.range (j.val + 1)).map f).sum := by
  have hv : init (Shape.Idx.first hu) = BitVec.ofNat 32 0 := (congrArg init (Subsingleton.elim _ _)).trans hinit
  have hj := j.isLt
  unfold Host.reduceWindow
  refine (Routing.foldl_addi_ofNat _ _ (fun k => if 30 ≤ j.val + k.val then f (j.val + k.val - 30) else 0) (fun k _ => ?_) _ 0 hv).trans ?_
  · have hk : k.val < 31 := (k.cast (Routing.numel2 31)).isLt
    have w0 : (Shape.rowMajor ⟨2, ![1, 31]⟩).symm k 0 = (0 : Fin 1) := congrFun (Routing.symm2 (N := 31) k) 0
    have w1 : (Shape.rowMajor ⟨2, ![1, 31]⟩).symm k 1 = k.cast (Routing.numel2 31) := congrFun (Routing.symm2 (N := 31) k) 1
    have p0 : n.val * 1 + ((Shape.rowMajor ⟨2, ![1, 31]⟩).symm k 0).val = n.val := by rw [w0, Nat.mul_one]; rfl
    have p1 : j.val * 1 + ((Shape.rowMajor ⟨2, ![1, 31]⟩).symm k 1).val = j.val + k.val := by rw [w1, Nat.mul_one]; rfl
    by_cases hle : 30 ≤ j.val + k.val
    · rw [if_pos hle]
      refine (dif_pos fun a => ?_).trans ((congrArg x (funext fun a => Fin.ext ?_)).trans (hx ⟨j.val + k.val - 30, by omega⟩))
      · match a with
        | ⟨0, _⟩ =>
          show 0 ≤ n.val * 1 + ((Shape.rowMajor ⟨2, ![1, 31]⟩).symm k 0).val ∧ n.val * 1 + ((Shape.rowMajor ⟨2, ![1, 31]⟩).symm k 0).val - 0 < 100
          rw [p0]; omega
        | ⟨1, _⟩ =>
          show 30 ≤ j.val * 1 + ((Shape.rowMajor ⟨2, ![1, 31]⟩).symm k 1).val ∧ j.val * 1 + ((Shape.rowMajor ⟨2, ![1, 31]⟩).symm k 1).val - 30 < 31
          rw [p1]; omega
      · match a with
        | ⟨0, _⟩ => exact congrArg (· - 0) p0
        | ⟨1, _⟩ => exact congrArg (· - 30) p1
    · rw [if_neg hle]
      refine (dif_neg fun hin => hle ?_).trans hv
      have h1 : 30 ≤ j.val * 1 + ((Shape.rowMajor ⟨2, ![1, 31]⟩).symm k 1).val := (hin 1).1
      omega
  · rw [Nat.zero_add, Routing.map_finRange_val _ (fun w => if 30 ≤ j.val + w then f (j.val + w - 30) else 0)]
    exact congrArg (BitVec.ofNat 32) ((congrArg (fun M => ((List.range M).map fun w => if 30 ≤ j.val + w then f (j.val + w - 30) else 0).sum)
      (Routing.numel2 31)).trans (Routing.sum_window f 30 j.val (by omega)))

end Windows

variable (V0 : Valuation τ sig (Elt Ideal))

/-- The node features the reference is given. -/
def feat (b : Fin 32) (s : Fin 128) (n : Fin 100) : EReal := V0 (Proc.devRef .tc main_arg0) (ix3 b s n)

/-- The reference's similarity matrix. -/
theorem sim_apply (n m : Fin 100) : res_main_v13 V0 (ix2 n m) = Spec.sim (feat V0) n m := by
  pointwise [res_main_v13, res_main_v9, res_main_v0]
  rw [bits_32]
  rfl

/-- The order in which node `n`'s similarities are listed. -/
def order (n : Fin 100) : Fin 100 → Fin 100 := sortedFrom (greater (Spec.sim (feat V0) n))

theorem along_row (n k j : Fin 100) : Shape.Idx.along (s := S100x100) (ix2 n j) 1 k = ix2 n k := by
  funext a
  match a with
  | ⟨0, _⟩ => rfl
  | ⟨1, _⟩ => rfl

/-- The second component of a sort of rows, at row `n` and place `k`. -/
theorem sort_row (x : FVec Ideal S100x100 .f32) (y : IVec S100x100 32) (n k : Fin 100)
    (v : Fin 100 → EReal) (hv : ∀ m, x (ix2 n m) = v m) :
    (Host.sort2 S100x100 1 (fun l r => FloatOps.cmpfTotal (F := Ideal) (φ := .f32) .gt l.1 r.1) x y).2 (ix2 n k)
      = y (ix2 n (sortedFrom (greater v) k)) := by
  have hR : (fun k' k'' : Fin 100 => (FloatOps.cmpfTotal (F := Ideal) (φ := .f32) .gt
      (x (Shape.Idx.along (s := S100x100) (ix2 n k) 1 k'))
      (x (Shape.Idx.along (s := S100x100) (ix2 n k) 1 k'')) == 1#1)) = greater v := by
    funext k' k''
    rw [along_row, along_row, hv, hv]
    show (BitVec.ofBool (decide (_ < _)) == 1#1) = decide (_ < _)
    cases decide (v k'' < v k') <;> rfl
  unfold Host.sort2
  rw [dif_pos (show 1 < S100x100.rank by decide)]
  rw [← hR]
  exact congrArg y (along_row n _ k)

/-- The positions of the greatest entries of each row, by the row's sort. -/
theorem topK_apply (x : FVec Ideal S100x100 .f32) (h : S100x100.Slices (fun _ => 0) S100x31) (n : Fin 100) (r : Fin 31)
    (v : Fin 100 → EReal) (hv : ∀ m, x (ix2 n m) = v m) :
    (Host.topK S100x31 1 (FloatOps.cmpfTotal (F := Ideal) .gt) x h).2 (ix2 n r)
      = BitVec.ofNat 32 (sortedFrom (greater v) ⟨r.val, by omega⟩).val := by
  have key := sort_row x (fun i => if hd : 1 < S100x100.rank then iotaInDim S100x100 32 ⟨1, hd⟩ i else 0#32) n
    ⟨r.val, by omega⟩ v hv
  rw [dif_pos (show 1 < S100x100.rank by decide)] at key
  refine Eq.trans ?_ key
  unfold Host.topK
  dsimp only
  unfold extractStridedSlice
  refine congrArg _ (funext fun a => Fin.ext ?_)
  match a with
  | ⟨0, _⟩ => exact Nat.zero_add _
  | ⟨1, _⟩ => exact Nat.zero_add _

/-- The reference's indices are the first thirty-one nodes in a row's order. -/
theorem indices_apply (n : Fin 100) (r : Fin 31) :
    res_main_indices V0 (ix2 n r) = BitVec.ofNat 32 (order V0 n ⟨r.val, by omega⟩).val :=
  topK_apply _ _ n r _ fun m => sim_apply V0 n m

/-- The place of row `n`'s `r`-th neighbour in the list of all rows' neighbours. -/
def flat (n : Fin 100) (r : Fin 31) : Fin 3100 := ⟨n.val * 31 + r.val, by omega⟩

theorem exists_flat (k : Fin 3100) : ∃ n r, k = flat n r :=
  ⟨⟨k.val / 31, by omega⟩, ⟨k.val % 31, by omega⟩, Fin.ext (by simp only [flat]; omega)⟩

/-- The row an entry of the flat list belongs to. -/
theorem rows_apply (n : Fin 100) (r : Fin 31) : res_main_v25 V0 (ix1 (flat n r)) = BitVec.ofNat 32 n.val := by
  unfold res_main_v25
  refine (Routing.cast21 _ _ n r _ rfl).trans ?_
  pointwise

/-- The neighbour an entry of the flat list names. -/
theorem neighbours_apply (n : Fin 100) (r : Fin 31) :
    res_main_v27 V0 (ix1 (flat n r)) = BitVec.ofNat 32 (order V0 n ⟨r.val, by omega⟩).val := by
  unfold res_main_v27
  exact (Routing.cast21 _ _ n r _ rfl).trans (indices_apply V0 n r)

/-- Which of the listed neighbours are kept. -/
def keep : IVec S3100 32 :=
  extui 32 (shapeCast S3100 (andi (res_main_v17 V0) (cmpi .sle (Host.reduceWindow IntOp.addi ![1, 31] ![1, 1] ![0, 30] ![0, 0] (extui 32 (res_main_v17 V0) natLt_1_32) (broadcastInDim S_ ![] bcast_S_S_ (constantI S_ 32 0#32)) reduceWindows_S100x31_S100x31_w1s1p0_0_w31s1p30_0 h_S_) (broadcastInDim S100x31 ![] bcast_S_S100x31 (constantI S_ 32 30#32)))) shapeCasts_S100x31_S3100) natLt_1_32

theorem v61_eq : res_main_v61 V0 = Host.gather gather_S100x100_S9900x2_S9900_n_01_n_n_01_1_11
    (Host.scatter scatter_S100x100_S3100x2_S3100_n_01_01_1 IntOp.maxsi (broadcastInDim S100x100 ![] bcast_S_S100x100 (constantI S_ 32 0#32))
      (pairs' (wrapped' (res_main_v25 V0)) (wrapped' (res_main_v27 V0))) (keep V0))
    (pairs (wrapped (res_main_v45 V0)) (wrapped (res_main_v47 V0))) := rfl

/-- Two nodes compared as words. -/
theorem ne_flag (a b : Fin 100) : IntOp.cmpi .ne (BitVec.ofNat 32 a.val) (BitVec.ofNat 32 b.val) = if a ≠ b then 1#1 else 0#1 := by
  show BitVec.ofBool (BitVec.ofNat 32 a.val != BitVec.ofNat 32 b.val) = _
  by_cases h : a = b
  · rw [if_neg (not_not.mpr h), h, bne_self_eq_false]; rfl
  · rw [if_pos h, bne_iff_ne.mpr]
    · rfl
    · intro h'
      have := congrArg BitVec.toInt h'
      rw [toInt_node, toInt_node] at this
      exact h (Fin.ext (by omega))

/-- The flag of an entry that is not the row's own node. -/
theorem v17_apply (n : Fin 100) (r : Fin 31) : res_main_v17 V0 (ix2 n r)
    = if order V0 n ⟨r.val, by omega⟩ ≠ n then 1#1 else 0#1 := by
  pointwise [res_main_v17]
  rw [indices_apply, ne_flag]

/-- How many of row `n`'s entries up to the `r`-th are other nodes. -/
def others (n : Fin 100) (r : Fin 31) : ℕ :=
  (univ.filter fun q : Fin 31 => q ≤ r ∧ order V0 n ⟨q.val, by omega⟩ ≠ n).card

theorem others_le (n : Fin 100) (r : Fin 31) : others V0 n r ≤ 31 := by
  unfold others
  exact (card_filter_le _ _).trans (by simp)

/-- A running sum of flags is a count. -/
theorem sum_prefix (P : Fin 31 → Prop) [DecidablePred P] (r : Fin 31) :
    ((List.range (r.val + 1)).map fun i => if h : i < 31 then (if P ⟨i, h⟩ then 1 else 0) else 0).sum
      = (univ.filter fun q : Fin 31 => q ≤ r ∧ P q).card := by
  show (Finset.range (r.val + 1)).sum (fun i => if h : i < 31 then (if P ⟨i, h⟩ then 1 else 0) else 0) = _
  rw [card_filter, Finset.sum_fin_eq_sum_range]
  refine (Finset.sum_congr rfl fun i hi => ?_).trans (Finset.sum_subset (Finset.range_subset_range.mpr (by omega)) fun i hi hn => ?_)
  · have h1 : i ≤ r.val := by have := Finset.mem_range.mp hi; omega
    have h2 : i < 31 := by omega
    rw [dif_pos h2, dif_pos h2]
    exact if_congr (by simp [Fin.le_def, h1]) rfl rfl
  · have h2 : i < 31 := Finset.mem_range.mp hi
    have h1 : ¬ i ≤ r.val := fun h => hn (Finset.mem_range.mpr (by omega))
    rw [dif_pos h2, if_neg]
    rintro ⟨h, -⟩
    exact h1 h

/-- The running count of the entries that are not the row's own node. -/
theorem window_apply (n : Fin 100) (r : Fin 31) :
    Host.reduceWindow IntOp.addi ![1, 31] ![1, 1] ![0, 30] ![0, 0] (extui 32 (res_main_v17 V0) natLt_1_32) (broadcastInDim S_ ![] bcast_S_S_ (constantI S_ 32 0#32)) reduceWindows_S100x31_S100x31_w1s1p0_0_w31s1p30_0 h_S_ (ix2 n r)
      = BitVec.ofNat 32 (others V0 n r) := by
  refine (prefixes _ n (fun i => if h : i < 31 then (if order V0 n ⟨i, by omega⟩ ≠ n then 1 else 0) else 0) (fun i => ?_) _ ?_ _ _ r).trans ?_
  · show BitVec.setWidth 32 (res_main_v17 V0 (ix2 n i)) = _
    rw [v17_apply, dif_pos i.isLt]
    split <;> rfl
  · pointwise
  · exact congrArg (BitVec.ofNat 32) (sum_prefix (fun q : Fin 31 => order V0 n ⟨q.val, by omega⟩ ≠ n) r)

/-- An entry is kept when it is not the row's own node and at most thirty such stand up to it. -/
theorem keep_apply (n : Fin 100) (r : Fin 31) :
    keep V0 (ix1 (flat n r)) = if order V0 n ⟨r.val, by omega⟩ ≠ n ∧ others V0 n r ≤ 30 then 1#32 else 0#32 := by
  have hc : (shapeCast S3100 (andi (res_main_v17 V0) (cmpi .sle (Host.reduceWindow IntOp.addi ![1, 31] ![1, 1] ![0, 30] ![0, 0] (extui 32 (res_main_v17 V0) natLt_1_32) (broadcastInDim S_ ![] bcast_S_S_ (constantI S_ 32 0#32)) reduceWindows_S100x31_S100x31_w1s1p0_0_w31s1p30_0 h_S_) (broadcastInDim S100x31 ![] bcast_S_S100x31 (constantI S_ 32 30#32)))) shapeCasts_S100x31_S3100) (ix1 (flat n r))
      = IntOp.andi (if order V0 n ⟨r.val, by omega⟩ ≠ n then 1#1 else 0#1) (IntOp.cmpi .sle (BitVec.ofNat 32 (others V0 n r)) 30#32) := by
    refine (Routing.cast21 _ _ n r _ rfl).trans ?_
    show IntOp.andi (res_main_v17 V0 (ix2 n r)) (IntOp.cmpi .sle (Host.reduceWindow _ _ _ _ _ _ _ _ _ (ix2 n r)) 30#32) = _
    rw [v17_apply, window_apply]
  refine (congrArg (BitVec.setWidth 32) hc).trans ?_
  have hle : IntOp.cmpi .sle (BitVec.ofNat 32 (others V0 n r)) 30#32 = BitVec.ofBool (decide (others V0 n r ≤ 30)) := by
    show BitVec.ofBool (decide (_ ≤ _)) = _
    have h31 := others_le V0 n r
    rw [toInt_small _ (by omega)]
    refine congrArg BitVec.ofBool (decide_eq_decide.mpr ?_)
    show ((others V0 n r : ℕ) : ℤ) ≤ 30 ↔ _
    omega
  rw [hle]
  by_cases h1 : order V0 n ⟨r.val, by omega⟩ ≠ n <;> by_cases h2 : others V0 n r ≤ 30 <;> simp [h1, h2] <;> decide

/-- The directed mask, as the reference marks it. -/
theorem marked_apply (n j : Fin 100) :
    Host.scatter scatter_S100x100_S3100x2_S3100_n_01_01_1 IntOp.maxsi (broadcastInDim S100x100 ![] bcast_S_S100x100 (constantI S_ 32 0#32))
      (pairs' (wrapped' (res_main_v25 V0)) (wrapped' (res_main_v27 V0))) (keep V0) (ix2 n j)
    = if Chosen (Spec.sim (feat V0) n) n j then 1#32 else 0#32 := by
  have hidx : ∀ m r, (pairs' (wrapped' (res_main_v25 V0)) (wrapped' (res_main_v27 V0))) (ix2 (flat m r) 0) = BitVec.ofNat 32 m.val
      ∧ (pairs' (wrapped' (res_main_v25 V0)) (wrapped' (res_main_v27 V0))) (ix2 (flat m r) 1)
        = BitVec.ofNat 32 (order V0 m ⟨r.val, by omega⟩).val := fun m r =>
    ⟨(pairs'_left _ _ _).trans (wrapped'_apply _ _ _ (rows_apply V0 m r)),
      (pairs'_right _ _ _).trans (wrapped'_apply _ _ _ (neighbours_apply V0 m r))⟩
  obtain ⟨h1, h2⟩ := scatter_flags scatter_S100x100_S3100x2_S3100_n_01_01_1
    (broadcastInDim S100x100 ![] bcast_S_S100x100 (constantI S_ 32 0#32))
    (pairs' (wrapped' (res_main_v25 V0)) (wrapped' (res_main_v27 V0))) (keep V0) (fun k => by
      obtain ⟨m, r, h⟩ := exists_flat (k 0)
      rw [show k = ix1 (flat m r) from (eq_ix1 k).trans (congrArg ix1 h), keep_apply]
      split
      · exact Or.inr rfl
      · exact Or.inl rfl) (ix2 n j) (by pointwise)
  have h3 := Select.chosen_sorted (Spec.sim (feat V0) n) n (order V0 n) (sorted_bijective _) (sorted_before _) j
  have h4 : (∃ k, scatter_S100x100_S3100x2_S3100_n_01_01_1.resultIdx? k (pairs' (wrapped' (res_main_v25 V0)) (wrapped' (res_main_v27 V0)))
      = some (ix2 n j) ∧ keep V0 k = 1#32) ↔ Chosen (Spec.sim (feat V0) n) n j := by
    rw [← h3]
    constructor
    · rintro ⟨k, hk, hkeep⟩
      obtain ⟨m, r, h⟩ := exists_flat (k 0)
      rw [show k = ix1 (flat m r) from (eq_ix1 k).trans (congrArg ix1 h)] at hk hkeep
      obtain ⟨hm, hr⟩ := (lands_pairs' _ _ _ _ (hidx m r).1 (hidx m r).2 n j).mp hk
      rw [keep_apply] at hkeep
      subst hm
      have hc := (ite_eq_left_iff.mp hkeep)
      by_cases hcond : order V0 m ⟨r.val, by omega⟩ ≠ m ∧ others V0 m r ≤ 30
      · exact ⟨r, hr, hcond.1, hcond.2⟩
      · exact absurd (hc hcond) (by decide)
    · rintro ⟨r, hr, hne, hcard⟩
      refine ⟨ix1 (flat n r), (lands_pairs' _ _ _ _ (hidx n r).1 (hidx n r).2 n j).mpr ⟨rfl, hr⟩, ?_⟩
      rw [keep_apply, if_pos ⟨hne, hcard⟩]
  rw [h4] at h2
  split
  · next h => exact h2.mpr h
  · next h => exact h1.resolve_right fun h' => h (h2.mp h')

end Cert.ReferenceIdeal.Graph
end
-- ==== Proof.RefGraph.lean ====
module
public import proofs.«01_k».proof.Proof.RefMask
@[expose] public section
noncomputable section
namespace Cert.ReferenceIdeal.Graph
open Idealize.ShloMosaic Idealize.SL.Sem Cert.ReferenceIdeal Cert.ReferenceIdeal.Gen Cert.ReferenceIdeal.Value
open Cert.Scalars Finset
open Cert.Select (Before Chosen)

/-! The reference's edge list, read as the ordered pairs of distinct nodes, and the values it computes along it. -/

variable (V0 : Valuation τ sig (Elt Ideal))

/-- The edge list holds the edges `src e → dst e`, one for each ordered pair of distinct nodes. -/
structure Edges (src dst : Fin 9900 → Fin 100) : Prop where
  source : ∀ e, V0 (Proc.devRef .tc main_arg1) (ix2 0 e) = BitVec.ofNat 32 (src e).val
  target : ∀ e, V0 (Proc.devRef .tc main_arg1) (ix2 1 e) = BitVec.ofNat 32 (dst e).val
  distinct : ∀ e, src e ≠ dst e
  place : ∀ e, (dst e).val * 99 + (if (dst e).val < (src e).val then (src e).val - 1 else (src e).val) = e.val

/-- The constant 1. -/
theorem const_one : id (constant (F := Ideal) S_ .f32 0x3F800000#32) ix0 = (1 : EReal) := by
  show constant (F := Ideal) S_ .f32 0x3F800000#32 ix0 = _
  pointwise

/-- The constant 0. -/
theorem const_zero : id (constant (F := Ideal) S_ .f32 0x00000000#32) ix0 = (0 : EReal) := by
  show constant (F := Ideal) S_ .f32 0x00000000#32 ix0 = _
  pointwise

variable {V0} {src dst : Fin 9900 → Fin 100} (E : Edges V0 src dst)
include E

/-- Two edges with the same ends are one edge. -/
theorem Edges.injective (e e' : Fin 9900) (hs : src e = src e') (hd : dst e = dst e') : e = e' := by
  have h := E.place e
  rw [hs, hd, E.place e'] at h
  exact Fin.ext h.symm

/-- Every two different nodes have an edge. -/
theorem Edges.surjective (i j : Fin 100) (hij : i ≠ j) : ∃ e, src e = i ∧ dst e = j := by
  have hne : i.val ≠ j.val := fun h => hij (Fin.ext h)
  have hi := i.isLt
  have hj := j.isLt
  let k := j.val * 99 + (if j.val < i.val then i.val - 1 else i.val)
  have hk : k < 9900 := by
    show j.val * 99 + (if j.val < i.val then i.val - 1 else i.val) < 9900
    split <;> omega
  have h := E.place ⟨k, hk⟩
  have hd := E.distinct ⟨k, hk⟩
  have hd' : (src ⟨k, hk⟩).val ≠ (dst ⟨k, hk⟩).val := fun h => hd (Fin.ext h)
  have hs' := (src ⟨k, hk⟩).isLt
  refine ⟨⟨k, hk⟩, ?_, ?_⟩
  all_goals
    apply Fin.ext
    change (dst ⟨k, hk⟩).val * 99 + _ = j.val * 99 + _ at h
    generalize (src ⟨k, hk⟩).val = s at *
    generalize (dst ⟨k, hk⟩).val = d at *
    split at h <;> split at h <;> omega

/-- A sum over the edges into `j` is a sum over all nodes, when the node's own term is zero. -/
theorem Edges.sum_into (f : Fin 100 → Fin 100 → EReal) (j : Fin 100) (hf : f j j = 0) :
    ∑ e ∈ univ.filter (fun e => dst e = j), f (src e) (dst e) = ∑ i, f i j := by
  rw [← Finset.sum_filter_of_ne (s := univ) (p := fun i => i ≠ j) (f := fun i => f i j) fun i _ h h' => h (h' ▸ hf)]
  refine Finset.sum_bij (fun e _ => src e) (fun e he => ?_) (fun e he e' he' h => ?_) (fun i hi => ?_) (fun e he => ?_)
  · rw [mem_filter]; exact ⟨mem_univ _, fun h => E.distinct e (h.trans (mem_filter.mp he).2.symm)⟩
  · exact E.injective e e' h ((mem_filter.mp he).2.trans (mem_filter.mp he').2.symm)
  · obtain ⟨e, h1, h2⟩ := E.surjective i j (mem_filter.mp hi).2
    exact ⟨e, mem_filter.mpr ⟨mem_univ _, h2⟩, h1⟩
  · rw [(mem_filter.mp he).2]

/-- The sources, as the reference reads them off the list. -/
theorem Edges.v45 (e : Fin 9900) : res_main_v45 V0 (ix1 e) = BitVec.ofNat 32 (src e).val := by
  rw [← E.source e]
  pointwise [res_main_v45]

/-- The targets, as the reference reads them off the list. -/
theorem Edges.v47 (e : Fin 9900) : res_main_v47 V0 (ix1 e) = BitVec.ofNat 32 (dst e).val := by
  rw [← E.target e]
  pointwise [res_main_v47]

/-- The first coordinate of an edge's index is its source. -/
theorem Edges.left (e : Fin 9900) :
    pairs (wrapped (res_main_v45 V0)) (wrapped (res_main_v47 V0)) (ix2 e 0) = BitVec.ofNat 32 (src e).val :=
  (pairs_left _ _ _).trans (wrapped_apply _ _ _ (E.v45 e))

/-- The second coordinate of an edge's index is its target. -/
theorem Edges.right (e : Fin 9900) :
    pairs (wrapped (res_main_v45 V0)) (wrapped (res_main_v47 V0)) (ix2 e 1) = BitVec.ofNat 32 (dst e).val :=
  (pairs_right _ _ _).trans (wrapped_apply _ _ _ (E.v47 e))

/-- An edge is kept where its source chooses its target. -/
theorem Edges.v61 (e : Fin 9900) : res_main_v61 V0 (ix1 e) = if Chosen ((Spec.sim (feat V0)) (src e)) (src e) (dst e) then 1#32 else 0#32 := by
  rw [v61_eq, gather_pairs _ _ e _ _ (E.left e) (E.right e), marked_apply]

/-- The kept edges scattered into a square are the mask. -/
theorem Edges.v78 (n m : Fin 100) : res_main_v78 V0 (ix2 n m) = Spec.mask (Spec.sim (feat V0)) n m := by
  obtain ⟨h1, h2⟩ := scatter_flags scatter_S100x100_S9900x2_S9900_n_01_01_1
    (broadcastInDim S100x100 ![] bcast_S_S100x100 (constantI S_ 32 0#32))
    (pairs (wrapped (res_main_v45 V0)) (wrapped (res_main_v47 V0))) (res_main_v61 V0) (fun k => by
      obtain ⟨e, rfl⟩ : ∃ e : Fin 9900, k = ix1 e := ⟨k 0, eq_ix1 k⟩
      rw [E.v61]
      split
      · exact Or.inr rfl
      · exact Or.inl rfl) (ix2 n m) (by pointwise)
  have h4 : (∃ k, scatter_S100x100_S9900x2_S9900_n_01_01_1.resultIdx? k (pairs (wrapped (res_main_v45 V0)) (wrapped (res_main_v47 V0)))
      = some (ix2 n m) ∧ res_main_v61 V0 k = 1#32) ↔ Chosen ((Spec.sim (feat V0)) n) n m := by
    constructor
    · rintro ⟨k, hk, hflag⟩
      obtain ⟨e, rfl⟩ : ∃ e : Fin 9900, k = ix1 e := ⟨k 0, eq_ix1 k⟩
      obtain ⟨hs, hd⟩ := (lands_pairs _ _ _ _ (E.left e) (E.right e) n m).mp hk
      rw [E.v61, hs, hd] at hflag
      by_contra hc
      rw [if_neg hc] at hflag
      exact absurd (show (0#32 : BitVec 32) = 1#32 from hflag) (by decide)
    · intro hc
      obtain ⟨e, hs, hd⟩ := E.surjective n m (Ne.symm hc.1)
      refine ⟨ix1 e, (lands_pairs _ _ _ _ (E.left e) (E.right e) n m).mpr ⟨hs, hd⟩, ?_⟩
      rw [E.v61, hs, hd, if_pos hc]
  rw [h4] at h2
  show ((((Host.scatter scatter_S100x100_S9900x2_S9900_n_01_01_1 IntOp.maxsi _ _ (res_main_v61 V0) (ix2 n m)).toInt : ℝ)) : EReal) = _
  unfold Spec.mask
  split
  · next h =>
    refine (congrArg (fun w : BitVec 32 => (((w.toInt : ℤ) : ℝ) : EReal)) (h2.mpr h)).trans ?_
    norm_num
  · next h =>
    refine (congrArg (fun w : BitVec 32 => (((w.toInt : ℤ) : ℝ) : EReal)) (h1.resolve_right fun h' => h (h2.mp h'))).trans ?_
    norm_num

/-- The mask plus its transpose, kept between 0 and 1, is the adjacency. -/
theorem Edges.v81 (n m : Fin 100) : res_main_v81 V0 (ix2 n m) = Spec.adj (Spec.sim (feat V0)) n m := by
  pointwise [res_main_v81]
  rw [E.v78, E.v78, const_one, const_zero]
  rfl

/-- The adjacency with each node joined to itself. -/
theorem Edges.v89 (n m : Fin 100) : res_main_v89 V0 (ix2 n m) = Spec.nbr (Spec.sim (feat V0)) n m := by
  have heye : FloatOps.uitofp (F := Ideal) .f32 (IntOp.cmpi .eq (IntOp.addi (BitVec.ofNat 32 n.val) 0#32) (BitVec.ofNat 32 m.val))
      = if n = m then (1 : EReal) else 0 := by
    have h0 : IntOp.addi (BitVec.ofNat 32 n.val) 0#32 = BitVec.ofNat 32 n.val := BitVec.add_zero _
    rw [h0]
    show (((BitVec.ofBool (BitVec.ofNat 32 n.val == BitVec.ofNat 32 m.val)).toNat : ℝ) : EReal) = _
    by_cases h : n = m
    · rw [if_pos h, h, beq_self_eq_true]
      show (((1 : ℕ) : ℝ) : EReal) = 1
      norm_num
    · have hne : BitVec.ofNat 32 n.val ≠ BitVec.ofNat 32 m.val := fun h' => by
        have := congrArg BitVec.toInt h'
        rw [toInt_node, toInt_node] at this
        exact h (Fin.ext (by omega))
      rw [if_neg h, beq_false_of_ne hne]; norm_num
  pointwise [res_main_v89]
  rw [E.v81, const_one, const_zero, heye]
  exact Spec.clip_nbr (Spec.sim (feat V0)) n m

/-- Its product with its transpose counts the common neighbours. -/
theorem Edges.v91 (n m : Fin 100) : res_main_v91 V0 (ix2 n m) = Spec.common (Spec.sim (feat V0)) n m := by
  pointwise [res_main_v91]
  simp only [E.v89]
  rfl

/-- The largest count. -/
theorem Edges.v96 : res_main_v96 V0 ix0 = Spec.top (Spec.sim (feat V0)) := by
  pointwise [res_main_v96]
  rw [bits_bot]
  unfold Spec.top
  refine le_antisymm (α := EReal) ?_ ?_
  · rw [Finset.fold_max_le]
    refine ⟨bot_le, fun i _ => ?_⟩
    obtain ⟨n, m, rfl⟩ : ∃ n m : Fin 100, i = ix2 n m := ⟨i 0, i 1, eq_ix2 i⟩
    rw [E.v91]
    exact (Finset.le_fold_max _).mpr (Or.inr ⟨(n, m), mem_univ _, le_refl _⟩)
  · rw [Finset.fold_max_le]
    refine ⟨bot_le, fun p _ => ?_⟩
    refine (Finset.le_fold_max _).mpr (Or.inr ⟨ix2 p.1 p.2, ?_, le_of_eq (α := EReal) (E.v91 p.1 p.2).symm⟩)
    rw [mem_filter]
    exact ⟨mem_univ _, Subsingleton.elim (α := S_.Idx) _ _⟩

omit E in
/-- The structural coefficients of all pairs, from the adjacency, the common neighbours and their greatest number. -/
def structuralOf (a c : FVec Ideal S100x100 .f32) (g : FVec Ideal S_ .f32) : FVec Ideal S100x100 .f32 :=
  select (cmpf .ogt (mulf a (uitofp .f32 (cmpf .ogt c (broadcastInDim S100x100 ![] bcast_S_S100x100 (constant S_ .f32 0x3F800000#32))))) (broadcastInDim S100x100 ![] bcast_S_S100x100 (constant S_ .f32 0x00000000#32))) (mulf (Host.divf c (broadcastInDim S100x100 ![] bcast_S_S100x100 (select (cmpf .ogt g (constant S_ .f32 0x00000000#32)) g (id (constant S_ .f32 0x3F800000#32))))) (Host.powf c (broadcastInDim S100x100 ![] bcast_S_S100x100 (constant S_ .f32 0x3F800000#32)))) (broadcastInDim S100x100 ![] bcast_S_S100x100 (id (constant S_ .f32 0x00000000#32)))

omit E in
/-- The structural term at two nodes, from the adjacency, the counts and the largest count. -/
theorem structuralOf_apply (a c : FVec Ideal S100x100 .f32) (g : FVec Ideal S_ .f32) (n m : Fin 100) :
    structuralOf a c g (ix2 n m)
      = (if 0 < (a (ix2 n m) : EReal) * FloatOps.uitofp (F := Ideal) .f32 (BitVec.ofBool (decide ((1 : EReal) < c (ix2 n m)))) then
          Ideal.div (c (ix2 n m)) (if (0 : EReal) < g ix0 then g ix0 else 1) * Ideal.pow (c (ix2 n m)) 1 else 0 : EReal) := by
  pointwise [structuralOf]
  rw [const_one, const_zero]

omit E in
/-- A flag as a float is 1 or 0. -/
theorem flag_apply (p : Prop) [Decidable p] :
    (FloatOps.uitofp (F := Ideal) .f32 (BitVec.ofBool (decide p)) : EReal) = if p then 1 else 0 := by
  by_cases h : p
  · rw [if_pos h, decide_eq_true h]
    show (((1 : ℕ) : ℝ) : EReal) = 1
    norm_num
  · rw [if_neg h, decide_eq_false h]
    show (((0 : ℕ) : ℝ) : EReal) = 0
    norm_num

omit E in
/-- The edge weights before normalisation: similarity plus structural term, times the kept flag. -/
theorem v136_eq : res_main_v136 V0 = mulf (addf
    (Host.gather gather_S100x100_S9900x2_S9900_n_01_n_n_01_1_11 (res_main_v13 V0) (pairs (wrapped (res_main_v45 V0)) (wrapped (res_main_v47 V0))))
    (Host.gather gather_S100x100_S9900x2_S9900_n_01_n_n_01_1_11 (structuralOf (res_main_v81 V0) (res_main_v91 V0) (res_main_v96 V0)) (pairs (wrapped (res_main_v45 V0)) (wrapped (res_main_v47 V0)))))
    (sitofp .f32 (res_main_v61 V0)) := rfl

/-- The structural term is the specification's. -/
theorem Edges.structural_apply (n m : Fin 100) :
    structuralOf (res_main_v81 V0) (res_main_v91 V0) (res_main_v96 V0) (ix2 n m) = Spec.structural (Spec.sim (feat V0)) n m := by
  rw [structuralOf_apply, E.v81, E.v91, E.v96, flag_apply, pow_one (Spec.isReal_common (Spec.sim (feat V0)) n m)]
  rfl

/-- An edge's weight before normalisation is the specification's at its ends. -/
theorem Edges.v136 (e : Fin 9900) : res_main_v136 V0 (ix1 e) = Spec.fused (Spec.sim (feat V0)) (src e) (dst e) := by
  rw [v136_eq]
  show (Host.gather _ _ _ (ix1 e) + Host.gather _ _ _ (ix1 e)) * (((res_main_v61 V0 (ix1 e)).toInt : ℝ) : EReal) = _
  rw [gather_pairs _ _ e _ _ (E.left e) (E.right e), gather_pairs _ _ e _ _ (E.left e) (E.right e), sim_apply, E.structural_apply, E.v61]
  unfold Spec.fused Spec.mask
  split <;> norm_num

/-- A sum scattered to the nodes. -/
theorem Edges.scatter_nodes (u : FVec Ideal S9900 .f32) (f : Fin 100 → Fin 100 → EReal) (hu : ∀ e, u (ix1 e) = f (src e) (dst e))
    (hf : ∀ j, f j j = 0) (j : Fin 100) :
    Host.scatterAdd scatter_S100_S9900x1_S9900_n_0_0_1 (broadcastInDim S100 ![] bcast_S_S100 (constant S_ .f32 0x00000000#32))
      (column (wrapped (res_main_v47 V0))) u (ix1 j) = ∑ i, f i j := by
  show (broadcastInDim S100 ![] bcast_S_S100 (constant (F := Ideal) S_ .f32 0x00000000#32) (ix1 j) : EReal)
    + ∑ k ∈ univ.filter (fun k => scatter_S100_S9900x1_S9900_n_0_0_1.resultIdx? k (column (wrapped (res_main_v47 V0))) = some (ix1 j)), u k = _
  have hz : (broadcastInDim S100 ![] bcast_S_S100 (constant (F := Ideal) S_ .f32 0x00000000#32) (ix1 j) : EReal) = 0 := by pointwise
  have hl : ∀ e, scatter_S100_S9900x1_S9900_n_0_0_1.resultIdx? (ix1 e) (column (wrapped (res_main_v47 V0))) = some (ix1 j) ↔ dst e = j :=
    fun e => lands_nodes _ e (dst e) ((column_apply _ e 0).trans (wrapped_apply _ _ _ (E.v47 e))) j
  rw [hz, zero_add, ← E.sum_into f j (hf j)]
  refine (Finset.sum_bij (fun e _ => ix1 e) (fun e he => ?_) (fun e he e' he' h => ?_) (fun k hk => ?_) (fun e he => (hu e).symm)).symm
  · rw [mem_filter]; exact ⟨mem_univ _, (hl e).mpr (mem_filter.mp he).2⟩
  · exact congrFun h 0
  · obtain ⟨e, rfl⟩ : ∃ e : Fin 9900, k = ix1 e := ⟨k 0, eq_ix1 k⟩
    exact ⟨e, mem_filter.mpr ⟨mem_univ _, (hl e).mp (mem_filter.mp hk).2⟩, rfl⟩

/-- A sum of features scattered to the nodes. -/
theorem Edges.scatter_slabs (u : FVec Ideal S9900x32x128 .f32) (b : Fin 32) (t : Fin 128) (f : Fin 100 → Fin 100 → EReal)
    (hu : ∀ e, u (ix3 e b t) = f (src e) (dst e)) (hf : ∀ j, f j j = 0) (j : Fin 100) :
    Host.scatterAdd scatter_S100x32x128_S9900x1_S9900x32x128_12_0_0_1
      (broadcastInDim S100x32x128 ![] bcast_S_S100x32x128 (constant S_ .f32 0x00000000#32))
      (column (res_main_v47 V0)) u (ix3 j b t) = ∑ i, f i j := by
  show (broadcastInDim S100x32x128 ![] bcast_S_S100x32x128 (constant (F := Ideal) S_ .f32 0x00000000#32) (ix3 j b t) : EReal)
    + ∑ k ∈ univ.filter (fun k => scatter_S100x32x128_S9900x1_S9900x32x128_12_0_0_1.resultIdx? k (column (res_main_v47 V0)) = some (ix3 j b t)), u k = _
  have hz : (broadcastInDim S100x32x128 ![] bcast_S_S100x32x128 (constant (F := Ideal) S_ .f32 0x00000000#32) (ix3 j b t) : EReal) = 0 := by
    pointwise
  have hl : ∀ e b' t', scatter_S100x32x128_S9900x1_S9900x32x128_12_0_0_1.resultIdx? (ix3 e b' t') (column (res_main_v47 V0))
      = some (ix3 j b t) ↔ dst e = j ∧ b' = b ∧ t' = t :=
    fun e b' t' => lands_slabs _ e b' t' (dst e) ((column_apply _ e 0).trans (E.v47 e)) j b t
  rw [hz, zero_add, ← E.sum_into f j (hf j)]
  refine (Finset.sum_bij (fun e _ => ix3 e b t) (fun e he => ?_) (fun e he e' he' h => ?_) (fun k hk => ?_) (fun e he => (hu e).symm)).symm
  · rw [mem_filter]; exact ⟨mem_univ _, (hl e b t).mpr ⟨(mem_filter.mp he).2, rfl, rfl⟩⟩
  · exact congrFun h 0
  · obtain ⟨e, b', t', rfl⟩ : ∃ (e : Fin 9900) (b' : Fin 32) (t' : Fin 128), k = ix3 e b' t' := ⟨k 0, k 1, k 2, eq_ix3 k⟩
    obtain ⟨h1, rfl, rfl⟩ := (hl e b' t').mp (mem_filter.mp hk).2
    exact ⟨e, mem_filter.mpr ⟨mem_univ _, h1⟩, rfl⟩

omit E in
/-- A node has no weight to itself. -/
theorem fused_self (j : Fin 100) : Spec.fused (Spec.sim (feat V0)) j j = 0 := by
  unfold Spec.fused
  rw [Spec.mask_self, mul_zero]

omit E in
/-- The degrees, scattered by target, to the power −1/2. -/
theorem v146_eq : res_main_v146 V0 = Host.powf (Host.scatterAdd scatter_S100_S9900x1_S9900_n_0_0_1
    (broadcastInDim S100 ![] bcast_S_S100 (constant S_ .f32 0x00000000#32)) (column (wrapped (res_main_v47 V0))) (res_main_v136 V0))
    (broadcastInDim S100 ![] bcast_S_S100 (constant S_ .f32 0xBF000000#32)) := rfl

omit E in
/-- The power −1/2 of a degree. -/
theorem powf_apply (u : FVec Ideal S100 .f32) (j : Fin 100) :
    Host.powf u (broadcastInDim S100 ![] bcast_S_S100 (constant S_ .f32 0xBF000000#32)) (ix1 j)
      = Ideal.pow (u (ix1 j)) (Ideal.ofBits .f32 0xBF000000#32) := by
  pointwise

/-- The power of a node's degree is the specification's. -/
theorem Edges.v146 (j : Fin 100) : res_main_v146 V0 (ix1 j) = Spec.degPow (Spec.sim (feat V0)) j := by
  rw [v146_eq, powf_apply, E.scatter_nodes (res_main_v136 V0) (Spec.fused (Spec.sim (feat V0))) E.v136 fused_self j]
  rfl

/-- The inverse root of a node's degree is the specification's. -/
theorem Edges.v148 (j : Fin 100) : res_main_v148 V0 (ix1 j) = Spec.dinv (Spec.sim (feat V0)) j := by
  pointwise [res_main_v148]
  rw [E.v146, const_zero, bits_top]
  rfl

omit E in
variable (V0) in
/-- The normalised weight of each edge. -/
def norm : FVec Ideal S9900 .f32 :=
  mulf (mulf (Host.gather gather_S100_S9900x1_S9900_n_0_n_n_0_1_1 (res_main_v148 V0) (column (wrapped (res_main_v45 V0)))) (res_main_v136 V0))
    (Host.gather gather_S100_S9900x1_S9900_n_0_n_n_0_1_1 (res_main_v148 V0) (column (wrapped (res_main_v47 V0))))

/-- An edge's normalised weight is the specification's at its ends. -/
theorem Edges.norm_apply (e : Fin 9900) : norm V0 (ix1 e) = Spec.weight (Spec.sim (feat V0)) (src e) (dst e) := by
  show Host.gather _ _ _ (ix1 e) * res_main_v136 V0 (ix1 e) * Host.gather _ _ _ (ix1 e) = _
  rw [gather_nodes _ _ e (src e) ((column_apply _ e 0).trans (wrapped_apply _ _ _ (E.v45 e))),
    gather_nodes _ _ e (dst e) ((column_apply _ e 0).trans (wrapped_apply _ _ _ (E.v47 e))), E.v136, E.v148, E.v148]
  rfl

omit E in
variable (V0) in
/-- The features after the linear map, by node. -/
def mapped : FVec Ideal S100x32x128 .f32 :=
  Host.dotGeneral (φ₁ := .f32) (φ₂ := .f32) dot_S100x32x128_S128x128_S100x32x128_2_0_01_1_n_n none (res_main_v0 V0) (V0 (Proc.devRef .tc main_arg2))

omit E in
/-- A node's mapped feature is the sum of its features times a column of the map. -/
theorem mapped_apply (i : Fin 100) (b : Fin 32) (t : Fin 128) :
    mapped V0 (ix3 i b t) = ∑ s : Fin 128, feat V0 b s i * V0 (Proc.devRef .tc main_arg2) (ix2 s t) := by
  pointwise [mapped, res_main_v0]
  rfl

omit E in
variable (V0) in
/-- What travels along each edge. -/
def messages : FVec Ideal S9900x32x128 .f32 :=
  mulf (broadcastInDim S9900x32x128 ![0, 1, 2] bcast_S9900x1x1_S9900x32x128_0_1_2 (broadcastInDim S9900x1x1 ![0] bcast_S9900_S9900x1x1_0 (norm V0)))
    (Host.gather gather_S100x32x128_S9900x1_S9900x32x128_12_0_n_n_0_1_132128 (mapped V0) (column (wrapped (res_main_v45 V0))))

omit E in
/-- A product of two arrays at an index. -/
theorem mulf_slab (u v : FVec Ideal S9900x32x128 .f32) (i : S9900x32x128.Idx) : mulf u v i = (u i * v i : EReal) := rfl

/-- An edge carries its normalised weight times its source's mapped features. -/
theorem Edges.messages_apply (e : Fin 9900) (b : Fin 32) (t : Fin 128) : messages V0 (ix3 e b t)
    = Spec.weight (Spec.sim (feat V0)) (src e) (dst e) * ∑ s : Fin 128, feat V0 b s (src e) * V0 (Proc.devRef .tc main_arg2) (ix2 s t) := by
  have hb : broadcastInDim S9900x32x128 ![0, 1, 2] bcast_S9900x1x1_S9900x32x128_0_1_2
      (broadcastInDim S9900x1x1 ![0] bcast_S9900_S9900x1x1_0 (norm V0)) (ix3 e b t) = norm V0 (ix1 e) := by pointwise
  unfold messages
  rw [mulf_slab, hb, gather_slabs _ _ e b t (src e) ((column_apply _ e 0).trans (wrapped_apply _ _ _ (E.v45 e))), E.norm_apply, mapped_apply]

omit E in
variable (V0) in
/-- The reference's result. -/
def result : FVec Ideal S32x128x100 .f32 :=
  transpose S32x128x100 [1, 2, 0] (addf (Host.scatterAdd scatter_S100x32x128_S9900x1_S9900x32x128_12_0_0_1
      (broadcastInDim S100x32x128 ![] bcast_S_S100x32x128 (constant S_ .f32 0x00000000#32)) (column (res_main_v47 V0)) (messages V0))
    (broadcastInDim S100x32x128 ![0, 1, 2] bcast_S1x1x128_S100x32x128_0_1_2 (broadcastInDim S1x1x128 ![2] bcast_S128_S1x1x128_2 (V0 (Proc.devRef .tc main_arg3)))))
    transposes_S100x32x128_S32x128x100_1_2_0

omit E in
/-- The last step adds the bias and moves the node axis to the end. -/
theorem finish_apply (u : FVec Ideal S100x32x128 .f32) (bias : FVec Ideal S128 .f32) (b : Fin 32) (t : Fin 128) (j : Fin 100) :
    transpose S32x128x100 [1, 2, 0] (addf u
      (broadcastInDim S100x32x128 ![0, 1, 2] bcast_S1x1x128_S100x32x128_0_1_2 (broadcastInDim S1x1x128 ![2] bcast_S128_S1x1x128_2 bias)))
      transposes_S100x32x128_S32x128x100_1_2_0 (ix3 b t j) = (u (ix3 j b t) + bias (ix1 t) : EReal) := by
  pointwise

/-- The reference's result, when the features, the weights and the map are finite. -/
theorem Edges.result_apply (hx : ∀ b s n, IsReal (feat V0 b s n))
    (hw : ∀ s t : Fin 128, IsReal (V0 (Proc.devRef .tc main_arg2) (ix2 s t))) (b : Fin 32) (t : Fin 128) (j : Fin 100) :
    result V0 (ix3 b t j) = Spec.out (Spec.sim (feat V0)) (feat V0) (fun s t => V0 (Proc.devRef .tc main_arg2) (ix2 s t))
      (fun t => V0 (Proc.devRef .tc main_arg3) (ix1 t)) b t j := by
  unfold result
  rw [finish_apply, E.scatter_slabs (messages V0) b t
    (fun i j => Spec.weight (Spec.sim (feat V0)) i j * ∑ s : Fin 128, feat V0 b s i * V0 (Proc.devRef .tc main_arg2) (ix2 s t))
    (fun e => E.messages_apply e b t) (fun j => ?_) j]
  · exact (Spec.out_eq (Spec.sim (feat V0)) (Spec.isReal_sim _ hx) (feat V0) hx (fun s t => V0 (Proc.devRef .tc main_arg2) (ix2 s t)) hw
      (fun t => V0 (Proc.devRef .tc main_arg3) (ix1 t)) b t j).symm
  · unfold Spec.weight
    rw [fused_self, mul_zero, zero_mul, zero_mul]

end Cert.ReferenceIdeal.Graph
end
-- ==== Proof.Precondition.lean ====
module
public import proofs.«01_k».proof.Proof.RefGraph
public import proofs.«01_k».proof.Proof.Gen.Pre_complete_graph_and_finite
public import Idealize.ShloMosaic.Lib.Pointwise
public import Idealize.ShloMosaic.Lib.ReduceAll
@[expose] public section
noncomputable section
namespace Cert.Pre_complete_graph_and_finite.Meaning
open Idealize.ShloMosaic Idealize.SL.Sem Cert.Pre_complete_graph_and_finite Cert.Pre_complete_graph_and_finite.Gen
open Cert.Scalars

/-! What the precondition says of the arguments. -/

/-- The source node and the target node of each edge. -/
def sources (g : IVec S2x9900 32) : IVec S9900 32 :=
  shapeCast S9900 (extractStridedSlice S1x9900 ![0, 0] g slices_S2x9900_S1x9900_0_0) shapeCasts_S1x9900_S9900

def targets (g : IVec S2x9900 32) : IVec S9900 32 :=
  shapeCast S9900 (extractStridedSlice S1x9900 ![1, 0] g slices_S2x9900_S1x9900_1_0) shapeCasts_S1x9900_S9900

/-- One word for every edge. -/
def fill (w : BitVec 32) : IVec S9900 32 := broadcastInDim S9900 ![] bcast_S_S9900 (constantI S_ 32 w)

/-- The test made of each edge. -/
def edgeFlags (u v : IVec S9900 32) : IVec S9900 1 :=
  andi (andi (andi (andi (andi (cmpi .sge u (fill 0#32)) (cmpi .slt u (fill 100#32))) (cmpi .sge v (fill 0#32))) (cmpi .slt v (fill 100#32)))
      (cmpi .ne u v))
    (cmpi .eq (addi (muli v (fill 99#32)) (select (cmpi .sgt u v) (subi u (fill 1#32)) u)) (iotaInDim S9900 32 0))

/-- The precondition is the test of all edges, of all features and of the whole map. -/
theorem fn_eq (x : FVec Ideal S32x128x100 .f32) (g : IVec S2x9900 32) (w : FVec Ideal S128x128 .f32) (bias : FVec Ideal S128 .f32) :
    fn (F := Ideal) x g w bias = andi (andi
      (Host.reduce IntOp.andi (edgeFlags (sources g) (targets g)) (constantI S_ 1 1#1) reducesTo_S9900_S_d0 h_S_)
      (Host.reduce IntOp.andi (cmpf .olt (Host.absf x) (broadcastInDim S32x128x100 ![] bcast_S_S32x128x100 (constant S_ .f32 0x7F800000#32)))
        (constantI S_ 1 1#1) reducesTo_S32x128x100_S_d0_1_2 h_S_))
      (Host.reduce IntOp.andi (cmpf .olt (Host.absf w) (broadcastInDim S128x128 ![] bcast_S_S128x128 (constant S_ .f32 0x7F800000#32)))
        (constantI S_ 1 1#1) reducesTo_S128x128_S_d0_1 h_S_) := rfl

/-- The sources are the first row of the edge list. -/
theorem sources_apply (g : IVec S2x9900 32) (e : Fin 9900) : sources g (ix1 e) = g (ix2 0 e) := by
  pointwise [sources]

/-- The targets are the second row of the edge list. -/
theorem targets_apply (g : IVec S2x9900 32) (e : Fin 9900) : targets g (ix1 e) = g (ix2 1 e) := by
  pointwise [targets]

/-- A word between 0 and 99 is a node. -/
theorem node_of_word (a : BitVec 32) (h0 : (0#32).toInt ≤ a.toInt) (h1 : a.toInt < (100#32).toInt) :
    ∃ p : Fin 100, a = BitVec.ofNat 32 p.val := by
  have e0 : (0#32).toInt = 0 := by decide
  have e1 : (100#32).toInt = 100 := by decide
  rw [e0] at h0
  rw [e1] at h1
  have ha := a.isLt
  have hc := BitVec.toInt_eq_toNat_cond a
  have hlt : a.toNat < 100 := by split at hc <;> omega
  exact ⟨⟨a.toNat, hlt⟩, (by simp)⟩

/-- An edge that passes the test runs between two different nodes and stands at their place in the list. -/
theorem edge_of_flag (u v : IVec S9900 32) (e : Fin 9900) (h : edgeFlags u v (ix1 e) = 1#1) :
    ∃ p q : Fin 100, u (ix1 e) = BitVec.ofNat 32 p.val ∧ v (ix1 e) = BitVec.ofNat 32 q.val ∧ p ≠ q
      ∧ q.val * 99 + (if q.val < p.val then p.val - 1 else p.val) = e.val := by
  have h : IntOp.andi (IntOp.andi (IntOp.andi (IntOp.andi (IntOp.andi (IntOp.cmpi .sge (u (ix1 e)) 0#32)
      (IntOp.cmpi .slt (u (ix1 e)) 100#32)) (IntOp.cmpi .sge (v (ix1 e)) 0#32)) (IntOp.cmpi .slt (v (ix1 e)) 100#32))
      (IntOp.cmpi .ne (u (ix1 e)) (v (ix1 e))))
      (IntOp.cmpi .eq (IntOp.addi (IntOp.muli (v (ix1 e)) 99#32)
        (Scalar.select (IntOp.cmpi .sgt (u (ix1 e)) (v (ix1 e))) (IntOp.subi (u (ix1 e)) 1#32) (u (ix1 e))))
        (BitVec.ofNat 32 e.val)) = 1#1 := by
    rw [← h]
    pointwise [edgeFlags, fill]
  obtain ⟨h, hplace⟩ := IntOp.andi_eq_one.mp h
  obtain ⟨h, hne⟩ := IntOp.andi_eq_one.mp h
  obtain ⟨h, hv1⟩ := IntOp.andi_eq_one.mp h
  obtain ⟨h, hv0⟩ := IntOp.andi_eq_one.mp h
  obtain ⟨hu0, hu1⟩ := IntOp.andi_eq_one.mp h
  obtain ⟨p, hp⟩ := node_of_word _ (IntOp.cmpi_sge.mp hu0) (IntOp.cmpi_slt.mp hu1)
  obtain ⟨q, hq⟩ := node_of_word _ (IntOp.cmpi_sge.mp hv0) (IntOp.cmpi_slt.mp hv1)
  have hne := IntOp.cmpi_ne.mp hne
  have hplace := IntOp.cmpi_eq.mp hplace
  refine ⟨p, q, hp, hq, fun h => hne (by rw [hp, hq, h]), ?_⟩
  rw [hp, hq, select_sgt, toInt_small _ (by omega), toInt_small _ (by omega)] at hplace
  have hp := p.isLt
  have hq := q.isLt
  have he := e.isLt
  have key := congrArg BitVec.toNat hplace
  by_cases hlt : q.val < p.val
  · rw [if_pos (by omega)] at key
    rw [if_pos hlt]
    simp only [IntOp.addi, IntOp.muli, IntOp.subi, BitVec.toNat_add, BitVec.toNat_mul, BitVec.toNat_sub, BitVec.toNat_ofNat] at key
    omega
  · rw [if_neg (by omega)] at key
    rw [if_neg hlt]
    simp only [IntOp.addi, IntOp.muli, BitVec.toNat_add, BitVec.toNat_mul, BitVec.toNat_ofNat] at key
    omega

/-- A value whose magnitude is below infinity is real. -/
theorem isReal_of_abs (a : EReal) (h : BitVec.ofBool (decide ((FloatOps.absf (F := Ideal) (φ := .f32) a : EReal) < Ideal.ofBits .f32 0x7F800000#32)) = 1#1) :
    IsReal a := by
  rw [bits_top] at h
  have h' : (FloatOps.absf (F := Ideal) (φ := .f32) a : EReal) < ⊤ := by
    by_contra hn
    rw [decide_eq_false hn] at h
    exact absurd h (by decide)
  refine IsReal.of_bounds ?_ ?_
  · rintro rfl
    exact absurd h' (by simp [FloatOps.absf])
  · rintro rfl
    exact absurd h' (by simp [FloatOps.absf])

/-- What the precondition says: every edge stands at its place, and the features and the map are finite. -/
theorem meaning (x : FVec Ideal S32x128x100 .f32) (g : IVec S2x9900 32) (w : FVec Ideal S128x128 .f32) (bias : FVec Ideal S128 .f32)
    (h : fn (F := Ideal) x g w bias = fun _ => 1#1) :
    (∀ e : Fin 9900, ∃ p q : Fin 100, g (ix2 0 e) = BitVec.ofNat 32 p.val ∧ g (ix2 1 e) = BitVec.ofNat 32 q.val ∧ p ≠ q
      ∧ q.val * 99 + (if q.val < p.val then p.val - 1 else p.val) = e.val)
    ∧ (∀ b s n, IsReal (x (ix3 b s n))) ∧ (∀ s t, IsReal (w (ix2 s t))) := by
  have h := congrFun ((fn_eq x g w bias).symm.trans h) ix0
  obtain ⟨h, hw⟩ := IntOp.andi_eq_one.mp h
  obtain ⟨hg, hx⟩ := IntOp.andi_eq_one.mp h
  refine ⟨fun e => ?_, fun b s n => ?_, fun s t => ?_⟩
  · have he := edge_of_flag _ _ e (Host.reduce_andi_all _ _ _ _ _ hg (ix1 e))
    rwa [sources_apply, targets_apply] at he
  · exact isReal_of_abs _ (Host.reduce_andi_all _ _ _ _ _ hx (ix3 b s n))
  · exact isReal_of_abs _ (Host.reduce_andi_all _ _ _ _ _ hw (ix2 s t))

end Cert.Pre_complete_graph_and_finite.Meaning
end
-- ==== Proof.Equal.lean ====
/- The kernel's result and the reference's are the same array. -/
module

public import proofs.«01_k».proof.Proof.KernelGraph
public import proofs.«01_k».proof.Proof.KernelRun
public import proofs.«01_k».proof.Proof.Precondition

@[expose] public section

noncomputable section

namespace Cert.Equal

open Idealize.ShloMosaic Idealize.SL.Sem Cert.Scalars
open Cert.Pre_complete_graph_and_finite (Meaning.meaning)

/-- The bias as the one row the kernel reads. -/
theorem row_apply (bias : FVec Ideal Cert.KernelIdeal.S128 .f32) (t : Fin 128) :
    (shapeCast Cert.KernelIdeal.S1x128 bias Cert.KernelIdeal.Gen.shapeCasts_S128_S1x128) (ix2 0 t) = bias (ix1 t) := by
  pointwise

/-- Of arguments satisfying the precondition, the reference computes what the kernel computes. -/
theorem results (V0 : Valuation Cert.ReferenceIdeal.τ Cert.ReferenceIdeal.sig (Elt Ideal))
    (x : FVec Ideal Cert.KernelIdeal.S32x128x100 .f32) (g : IVec Cert.KernelIdeal.S2x9900 32) (w : FVec Ideal Cert.KernelIdeal.S128x128 .f32)
    (bias : FVec Ideal Cert.KernelIdeal.S128 .f32)
    (hpre : Cert.Pre_complete_graph_and_finite.fn (F := Ideal) x g w bias = fun _ => 1#1)
    (h0 : V0 (Proc.devRef .tc Cert.ReferenceIdeal.main_arg0) = x) (h1 : V0 (Proc.devRef .tc Cert.ReferenceIdeal.main_arg1) = g)
    (h2 : V0 (Proc.devRef .tc Cert.ReferenceIdeal.main_arg2) = w) (h3 : V0 (Proc.devRef .tc Cert.ReferenceIdeal.main_arg3) = bias) :
    Cert.ReferenceIdeal.Graph.result V0
      = Cert.KernelIdeal.Steps.result (F := Ideal) x w (shapeCast Cert.KernelIdeal.S1x128 bias Cert.KernelIdeal.Gen.shapeCasts_S128_S1x128) := by
  subst h0 h1 h2 h3
  obtain ⟨hg, hx, hw⟩ := Meaning.meaning _ _ _ _ hpre
  choose src dst hs ht hne hp using hg
  have E : Cert.ReferenceIdeal.Graph.Edges V0 src dst := ⟨hs, ht, hne, hp⟩
  funext y
  obtain ⟨b, t, j, rfl⟩ : ∃ (b : Fin 32) (t : Fin 128) (j : Fin 100), y = ix3 b t j := ⟨y 0, y 1, y 2, eq_ix3 y⟩
  refine (E.result_apply hx hw b t j).trans (Eq.symm ?_)
  refine (Cert.KernelIdeal.Steps.block_apply _ hx _ _ b t j).trans ?_
  simp only [row_apply]
  rfl

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_complete_graph_and_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every run of the reference ends with its arguments as they were. -/
theorem reference_unchanged : Cert.quiescent_ReferenceIdeal (hReferenceIdeal := Cert.ReferenceIdeal.Gen.facts) :=
  fun m ρ _ => θ_run_mono (Cert.ReferenceIdeal.Value.run m ρ) fun r h => ⟨fun c => (h c).2, sem_eq_zero_of_no_sems (by decide) r.2⟩

/-- The kernel and the reference end with the same result. -/
theorem same : Cert.algebraic_KernelIdeal_ReferenceIdeal_pre_complete_graph_and_finite (hKernelIdeal := Cert.KernelIdeal.Gen.facts)
    (hReferenceIdeal := Cert.ReferenceIdeal.Gen.facts) (hPre_complete_graph_and_finite := Cert.Pre_complete_graph_and_finite.Gen.facts) :=
  fun m g m' g' hpre hagree => ⟨_, Cert.KernelIdeal.Steps.run (F := Ideal) m g,
    θ_run_mono (Cert.ReferenceIdeal.Value.run m' g') fun _ h c => ⟨(h c).1.trans
      (Cert.Equal.results (StableHlo.launchContents m' c) _ _ _ _ (hpre c) (hagree c).1 (hagree c).2.1 (hagree c).2.2.1 (hagree c).2.2.2), (h c).2⟩⟩

theorem claim : Cert.Claim := ⟨Cert.Kernel.Gen.facts, Cert.KernelIdeal.Gen.facts, Cert.ReferenceIdeal.Gen.facts, Cert.Pre_complete_graph_and_finite.Gen.facts,
  fun m ρ _ => Cert.Kernel.Gen.frame m ρ, fun m ρ _ => Cert.KernelIdeal.Gen.frame m ρ, fun m ρ _ => Cert.KernelIdeal.Gen.frame m ρ,
  reference_unchanged, fun m ρ _ => reference_unchanged m ρ trivial, trivial, same⟩

end Cert.Proof

end
